-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 4096, 512]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 4096, 4, 64]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨3, ![2, 128, 512]⟩ ⟨3, ![2, 4096, 512]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S2x128x4x64 : S_.BroadcastsInDim S2x128x4x64 (![] : Fin 0 → Fin S2x128x4x64.rank)

variable [Facts]

def fn {F : FTy → Type} [FloatOps F] (main_arg0 : FVec F S2x128x512 .f32) (main_arg1 : FVec F S512x256 .f32) (main_arg2 : FVec F S2x128x4x64 .f32) (main_arg3 : FVec F S2x128x4x64 .f32) (main_arg4 : FVec F S256x512 .f32) : IVec S2x128x512 1 × IVec S512x256 1 × IVec S2x128x4x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x128x4x64 .f32 := Host.absf main_arg2
  let main_cst_1 : FVec F S_ .f32 := constant S_ .f32 0x7F800000#32
  let main_v7 : FVec F S2x128x4x64 .f32 := broadcastInDim S2x128x4x64 ![] bcast_S_S2x128x4x64 main_cst_1
  let main_v8 : IVec S2x128x4x64 1 := cmpf .olt main_v6 main_v7
  (main_v2, main_v5, main_v8)
-- ==== Pre_scores_finite_ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S_ : Shape := ⟨0, ![]⟩

class Facts : Prop where
  bcast_S_S2x4096x512 : S_.BroadcastsInDim S2x4096x512 (![] : Fin 0 → Fin S2x4096x512.rank)
  bcast_S_S512x256 : S_.BroadcastsInDim S512x256 (![] : Fin 0 → Fin S512x256.rank)
  bcast_S_S2x4096x4x64 : S_.BroadcastsInDim S2x4096x4x64 (![] : Fin 0 → Fin S2x4096x4x64.rank)

variable [Facts]

def fn {F : FTy → Type} [FloatOps F] (main_arg0 : FVec F S2x4096x512 .f32) (main_arg1 : FVec F S512x256 .f32) (main_arg2 : FVec F S2x4096x4x64 .f32) (main_arg3 : FVec F S2x4096x4x64 .f32) (main_arg4 : FVec F S256x512 .f32) : IVec S2x4096x512 1 × IVec S512x256 1 × IVec S2x4096x4x64 1 :=
  let main_v0 : FVec F S2x4096x512 .f32 := Host.absf main_arg0
  let main_cst : FVec F S_ .f32 := constant S_ .f32 0x7F800000#32
  let main_v1 : FVec F S2x4096x512 .f32 := broadcastInDim S2x4096x512 ![] bcast_S_S2x4096x512 main_cst
  let main_v2 : IVec S2x4096x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S2x4096x4x64 .f32 := Host.absf main_arg2
  let main_cst_1 : FVec F S_ .f32 := constant S_ .f32 0x7F800000#32
  let main_v7 : FVec F S2x4096x4x64 .f32 := broadcastInDim S2x4096x4x64 ![] bcast_S_S2x4096x4x64 main_cst_1
  let main_v8 : IVec S2x4096x4x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S2x128x4x64 : Shape := ⟨4, ![2, 128, 4, 64]⟩
abbrev S256x512 : Shape := ⟨2, ![256, 512]⟩
abbrev S2x128x256 : Shape := ⟨3, ![2, 128, 256]⟩
abbrev S16x2x2x128x256 : Shape := ⟨5, ![16, 2, 2, 128, 256]⟩
abbrev S4x15 : Shape := ⟨2, ![4, 15]⟩
abbrev S_ : Shape := ⟨0, ![]⟩
abbrev S1x1x2x128x256 : Shape := ⟨5, ![1, 1, 2, 128, 256]⟩
abbrev S256x256 : Shape := ⟨2, ![256, 256]⟩
abbrev S1x1 : Shape := ⟨2, ![1, 1]⟩
abbrev S1x1x1x128x256 : Shape := ⟨5, ![1, 1, 1, 128, 256]⟩
abbrev S128x256 : Shape := ⟨2, ![128, 256]⟩
abbrev S1x64x64 : Shape := ⟨3, ![1, 64, 64]⟩
abbrev S64x64 : Shape := ⟨2, ![64, 64]⟩
abbrev S16x1x1x64x64 : Shape := ⟨5, ![16, 1, 1, 64, 64]⟩
abbrev S16x64x64 : Shape := ⟨3, ![16, 64, 64]⟩
abbrev S1024x64 : Shape := ⟨2, ![1024, 64]⟩
abbrev S64x1024 : Shape := ⟨2, ![64, 1024]⟩
abbrev S64 : Shape := ⟨1, ![64]⟩
abbrev S64x1 : Shape := ⟨2, ![64, 1]⟩

abbrev nBuf : Space → Nat
  | .hbm => 8
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x4x64, .f32⟩
  | .hbm, ⟨3, _⟩ => ⟨S2x128x4x64, .f32⟩
  | .hbm, ⟨4, _⟩ => ⟨S256x512, .f32⟩
  | .hbm, ⟨5, _⟩ => ⟨S2x128x256, .f32⟩
  | .hbm, ⟨6, _⟩ => ⟨S2x128x256, .f32⟩
  | .hbm, ⟨7, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x256, .f32⟩
  | .local _ .vmem, ⟨3, _⟩ => ⟨S2x128x256, .f32⟩
  | .local _ .vmem, ⟨4, _⟩ => ⟨S256x512, .f32⟩
  | .local _ .vmem, ⟨5, _⟩ => ⟨S2x128x512, .f32⟩
  | .local _ .vmem, ⟨6, _⟩ => ⟨S16x2x2x128x256, .bf16⟩
  | .local _ .vmem, ⟨7, _⟩ => ⟨S2x128x256, .bf16⟩
  | .local _ .vmem, ⟨8, _⟩ => ⟨S2x128x256, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 126 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | _ => false

abbrev sig : RefSig :=
  (ofTc nBuf bufTy 1 126 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1 : BitVec 32 := 32#32
  let v5 : BitVec 32 := Scalar.addi v2 c32_i32_1
  let c2_i32_2 : BitVec 32 := 2#32
  let v6 : BitVec 32 := Scalar.subi v5 c2_i32_2
  let c32_i32_3 : BitVec 32 := 32#32
  let v7 : BitVec 32 := Scalar.remsi v6 c32_i32_3
  let c1_i32_5 : BitVec 32 := 1#32
  let v9 : BitVec 32 := Scalar.muli v7 c1_i32_5
  let v10 : BitVec 32 := Scalar.addi c0_i32 v9
  v10.toNat
def k0_dev2 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_7 : BitVec 32 := 1#32
  let v11 : BitVec 32 := Scalar.muli v4 c1_i32_7
  let v12 : BitVec 32 := Scalar.addi c0_i32_8 v11
  v12.toNat
def k0_dev3 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_43 : BitVec 32 := 1#32
  let v38 : BitVec 32 := Scalar.muli v4 c1_i32_43
  let v39 : BitVec 32 := Scalar.addi c0_i32_44 v38
  v39.toNat
def k0_dev4 (d0 : Dev nD) : Nat :=
  let c0_i32_60 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_59 : BitVec 32 := 1#32
  let v48 : BitVec 32 := Scalar.muli v4 c1_i32_59
  let v49 : BitVec 32 := Scalar.addi c0_i32_60 v48
  v49.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_75 : BitVec 32 := 1#32
  let v58 : BitVec 32 := Scalar.muli v4 c1_i32_75
  let v59 : BitVec 32 := Scalar.addi c0_i32_76 v58
  v59.toNat
def k0_dev6 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_90 : BitVec 32 := 1#32
  let v68 : BitVec 32 := Scalar.muli v4 c1_i32_90
  let v69 : BitVec 32 := Scalar.addi c0_i32_91 v68
  v69.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_122 : BitVec 32 := 1#32
  let v86 : BitVec 32 := Scalar.muli v4 c1_i32_122
  let v87 : BitVec 32 := Scalar.addi c0_i32_123 v86
  v87.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_154 : BitVec 32 := 1#32
  let v104 : BitVec 32 := Scalar.muli v4 c1_i32_154
  let v105 : BitVec 32 := Scalar.addi c0_i32_155 v104
  v105.toNat
def k0_dev9 (d0 : Dev nD) : Nat :=
  let c0_i32_187 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_186 : BitVec 32 := 1#32
  let v122 : BitVec 32 := Scalar.muli v4 c1_i32_186
  let v123 : BitVec 32 := Scalar.addi c0_i32_187 v122
  v123.toNat
def k0_dev10 (d0 : Dev nD) : Nat :=
  let c0_i32_219 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_218 : BitVec 32 := 1#32
  let v140 : BitVec 32 := Scalar.muli v4 c1_i32_218
  let v141 : BitVec 32 := Scalar.addi c0_i32_219 v140
  v141.toNat
def k0_dev11 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_250 : BitVec 32 := 1#32
  let v158 : BitVec 32 := Scalar.muli v4 c1_i32_250
  let v159 : BitVec 32 := Scalar.addi c0_i32_251 v158
  v159.toNat
def k0_dev12 (d0 : Dev nD) : Nat :=
  let c0_i32_283 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_282 : BitVec 32 := 1#32
  let v176 : BitVec 32 := Scalar.muli v4 c1_i32_282
  let v177 : BitVec 32 := Scalar.addi c0_i32_283 v176
  v177.toNat
def k0_dev13 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_314 : BitVec 32 := 1#32
  let v194 : BitVec 32 := Scalar.muli v4 c1_i32_314
  let v195 : BitVec 32 := Scalar.addi c0_i32_315 v194
  v195.toNat
def k0_dev14 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_346 : BitVec 32 := 1#32
  let v212 : BitVec 32 := Scalar.muli v4 c1_i32_346
  let v213 : BitVec 32 := Scalar.addi c0_i32_347 v212
  v213.toNat
def k0_dev15 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_377 : BitVec 32 := 1#32
  let v230 : BitVec 32 := Scalar.muli v4 c1_i32_377
  let v231 : BitVec 32 := Scalar.addi c0_i32_378 v230
  v231.toNat
def k0_dev16 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_409 : BitVec 32 := 1#32
  let v248 : BitVec 32 := Scalar.muli v4 c1_i32_409
  let v249 : BitVec 32 := Scalar.addi c0_i32_410 v248
  v249.toNat
def k0_dev17 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_441 : BitVec 32 := 1#32
  let v266 : BitVec 32 := Scalar.muli v4 c1_i32_441
  let v267 : BitVec 32 := Scalar.addi c0_i32_442 v266
  v267.toNat
def k0_dev18 (d0 : Dev nD) : Nat :=
  let c0_i32_474 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_473 : BitVec 32 := 1#32
  let v284 : BitVec 32 := Scalar.muli v4 c1_i32_473
  let v285 : BitVec 32 := Scalar.addi c0_i32_474 v284
  v285.toNat
def k0_dev19 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_504 : BitVec 32 := 1#32
  let v302 : BitVec 32 := Scalar.muli v4 c1_i32_504
  let v303 : BitVec 32 := Scalar.addi c0_i32_505 v302
  v303.toNat
def k0_dev20 (d0 : Dev nD) : Nat :=
  let c0_i32_537 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_536 : BitVec 32 := 1#32
  let v320 : BitVec 32 := Scalar.muli v4 c1_i32_536
  let v321 : BitVec 32 := Scalar.addi c0_i32_537 v320
  v321.toNat
def k0_dev21 (d0 : Dev nD) : Nat :=
  let c0_i32_569 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_568 : BitVec 32 := 1#32
  let v338 : BitVec 32 := Scalar.muli v4 c1_i32_568
  let v339 : BitVec 32 := Scalar.addi c0_i32_569 v338
  v339.toNat
def k0_dev22 (d0 : Dev nD) : Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_600 : BitVec 32 := 1#32
  let v356 : BitVec 32 := Scalar.muli v4 c1_i32_600
  let v357 : BitVec 32 := Scalar.addi c0_i32_601 v356
  v357.toNat
def k0_dev23 (d0 : Dev nD) : Nat :=
  let c0_i32_632 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_631 : BitVec 32 := 1#32
  let v374 : BitVec 32 := Scalar.muli v4 c1_i32_631
  let v375 : BitVec 32 := Scalar.addi c0_i32_632 v374
  v375.toNat
def k0_dev24 (d0 : Dev nD) : Nat :=
  let c0_i32_664 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_663 : BitVec 32 := 1#32
  let v392 : BitVec 32 := Scalar.muli v4 c1_i32_663
  let v393 : BitVec 32 := Scalar.addi c0_i32_664 v392
  v393.toNat
def k0_dev25 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_695 : BitVec 32 := 1#32
  let v410 : BitVec 32 := Scalar.muli v4 c1_i32_695
  let v411 : BitVec 32 := Scalar.addi c0_i32_696 v410
  v411.toNat
def k0_dev26 (d0 : Dev nD) : Nat :=
  let c0_i32_728 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_727 : BitVec 32 := 1#32
  let v428 : BitVec 32 := Scalar.muli v4 c1_i32_727
  let v429 : BitVec 32 := Scalar.addi c0_i32_728 v428
  v429.toNat
def k0_dev27 (d0 : Dev nD) : Nat :=
  let c0_i32_759 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_758 : BitVec 32 := 1#32
  let v446 : BitVec 32 := Scalar.muli v4 c1_i32_758
  let v447 : BitVec 32 := Scalar.addi c0_i32_759 v446
  v447.toNat
def k0_dev28 (d0 : Dev nD) : Nat :=
  let c0_i32_791 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_790 : BitVec 32 := 1#32
  let v464 : BitVec 32 := Scalar.muli v4 c1_i32_790
  let v465 : BitVec 32 := Scalar.addi c0_i32_791 v464
  v465.toNat
def k0_dev29 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_822 : BitVec 32 := 1#32
  let v482 : BitVec 32 := Scalar.muli v4 c1_i32_822
  let v483 : BitVec 32 := Scalar.addi c0_i32_823 v482
  v483.toNat
def k0_dev30 (d0 : Dev nD) : Nat :=
  let c0_i32_855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_854 : BitVec 32 := 1#32
  let v500 : BitVec 32 := Scalar.muli v4 c1_i32_854
  let v501 : BitVec 32 := Scalar.addi c0_i32_855 v500
  v501.toNat
def k0_dev31 (d0 : Dev nD) : Nat :=
  let c0_i32_886 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_885 : BitVec 32 := 1#32
  let v518 : BitVec 32 := Scalar.muli v4 c1_i32_885
  let v519 : BitVec 32 := Scalar.addi c0_i32_886 v518
  v519.toNat
def k0_dev32 (d0 : Dev nD) : Nat :=
  let c0_i32_918 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_917 : BitVec 32 := 1#32
  let v536 : BitVec 32 := Scalar.muli v4 c1_i32_917
  let v537 : BitVec 32 := Scalar.addi c0_i32_918 v536
  v537.toNat
def k0_dev33 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_949 : BitVec 32 := 1#32
  let v554 : BitVec 32 := Scalar.muli v4 c1_i32_949
  let v555 : BitVec 32 := Scalar.addi c0_i32_950 v554
  v555.toNat
def k0_dev34 (d0 : Dev nD) : Nat :=
  let c0_i32_982 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_981 : BitVec 32 := 1#32
  let v572 : BitVec 32 := Scalar.muli v4 c1_i32_981
  let v573 : BitVec 32 := Scalar.addi c0_i32_982 v572
  v573.toNat
def k0_dev35 (d0 : Dev nD) : Nat :=
  let c0_i32_1013 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1012 : BitVec 32 := 1#32
  let v590 : BitVec 32 := Scalar.muli v4 c1_i32_1012
  let v591 : BitVec 32 := Scalar.addi c0_i32_1013 v590
  v591.toNat
def k0_dev36 (d0 : Dev nD) : Nat :=
  let c0_i32_1045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1044 : BitVec 32 := 1#32
  let v608 : BitVec 32 := Scalar.muli v4 c1_i32_1044
  let v609 : BitVec 32 := Scalar.addi c0_i32_1045 v608
  v609.toNat
def k0_dev37 (d0 : Dev nD) : Nat :=
  let c0_i32_1077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1076 : BitVec 32 := 1#32
  let v626 : BitVec 32 := Scalar.muli v4 c1_i32_1076
  let v627 : BitVec 32 := Scalar.addi c0_i32_1077 v626
  v627.toNat
def k0_dev38 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1108 : BitVec 32 := 1#32
  let v644 : BitVec 32 := Scalar.muli v4 c1_i32_1108
  let v645 : BitVec 32 := Scalar.addi c0_i32_1109 v644
  v645.toNat
def k0_dev39 (d0 : Dev nD) : Nat :=
  let c0_i32_1140 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1139 : BitVec 32 := 1#32
  let v662 : BitVec 32 := Scalar.muli v4 c1_i32_1139
  let v663 : BitVec 32 := Scalar.addi c0_i32_1140 v662
  v663.toNat
def k0_dev40 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1171 : BitVec 32 := 1#32
  let v680 : BitVec 32 := Scalar.muli v4 c1_i32_1171
  let v681 : BitVec 32 := Scalar.addi c0_i32_1172 v680
  v681.toNat
def k0_dev41 (d0 : Dev nD) : Nat :=
  let c0_i32_1204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1203 : BitVec 32 := 1#32
  let v698 : BitVec 32 := Scalar.muli v4 c1_i32_1203
  let v699 : BitVec 32 := Scalar.addi c0_i32_1204 v698
  v699.toNat
def k0_dev42 (d0 : Dev nD) : Nat :=
  let c0_i32_1236 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1235 : BitVec 32 := 1#32
  let v716 : BitVec 32 := Scalar.muli v4 c1_i32_1235
  let v717 : BitVec 32 := Scalar.addi c0_i32_1236 v716
  v717.toNat
def k0_dev43 (d0 : Dev nD) : Nat :=
  let c0_i32_1267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1266 : BitVec 32 := 1#32
  let v734 : BitVec 32 := Scalar.muli v4 c1_i32_1266
  let v735 : BitVec 32 := Scalar.addi c0_i32_1267 v734
  v735.toNat
def k0_dev44 (d0 : Dev nD) : Nat :=
  let c0_i32_1299 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1298 : BitVec 32 := 1#32
  let v752 : BitVec 32 := Scalar.muli v4 c1_i32_1298
  let v753 : BitVec 32 := Scalar.addi c0_i32_1299 v752
  v753.toNat
def k0_dev45 (d0 : Dev nD) : Nat :=
  let c0_i32_1331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1330 : BitVec 32 := 1#32
  let v770 : BitVec 32 := Scalar.muli v4 c1_i32_1330
  let v771 : BitVec 32 := Scalar.addi c0_i32_1331 v770
  v771.toNat
def k0_dev46 (d0 : Dev nD) : Nat :=
  let c0_i32_1363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1362 : BitVec 32 := 1#32
  let v788 : BitVec 32 := Scalar.muli v4 c1_i32_1362
  let v789 : BitVec 32 := Scalar.addi c0_i32_1363 v788
  v789.toNat
def k0_dev47 (d0 : Dev nD) : Nat :=
  let c0_i32_1394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1393 : BitVec 32 := 1#32
  let v806 : BitVec 32 := Scalar.muli v4 c1_i32_1393
  let v807 : BitVec 32 := Scalar.addi c0_i32_1394 v806
  v807.toNat
def k0_dev48 (d0 : Dev nD) : Nat :=
  let c0_i32_1426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1425 : BitVec 32 := 1#32
  let v824 : BitVec 32 := Scalar.muli v4 c1_i32_1425
  let v825 : BitVec 32 := Scalar.addi c0_i32_1426 v824
  v825.toNat
def k0_dev49 (d0 : Dev nD) : Nat :=
  let c0_i32_1458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1457 : BitVec 32 := 1#32
  let v842 : BitVec 32 := Scalar.muli v4 c1_i32_1457
  let v843 : BitVec 32 := Scalar.addi c0_i32_1458 v842
  v843.toNat
def k0_dev50 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1489 : BitVec 32 := 1#32
  let v860 : BitVec 32 := Scalar.muli v4 c1_i32_1489
  let v861 : BitVec 32 := Scalar.addi c0_i32_1490 v860
  v861.toNat
def k0_dev51 (d0 : Dev nD) : Nat :=
  let c0_i32_1521 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1520 : BitVec 32 := 1#32
  let v878 : BitVec 32 := Scalar.muli v4 c1_i32_1520
  let v879 : BitVec 32 := Scalar.addi c0_i32_1521 v878
  v879.toNat
def k0_dev52 (d0 : Dev nD) : Nat :=
  let c0_i32_1553 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1552 : BitVec 32 := 1#32
  let v896 : BitVec 32 := Scalar.muli v4 c1_i32_1552
  let v897 : BitVec 32 := Scalar.addi c0_i32_1553 v896
  v897.toNat
def k0_dev53 (d0 : Dev nD) : Nat :=
  let c0_i32_1585 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1584 : BitVec 32 := 1#32
  let v914 : BitVec 32 := Scalar.muli v4 c1_i32_1584
  let v915 : BitVec 32 := Scalar.addi c0_i32_1585 v914
  v915.toNat
def k0_dev54 (d0 : Dev nD) : Nat :=
  let c0_i32_1617 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1616 : BitVec 32 := 1#32
  let v932 : BitVec 32 := Scalar.muli v4 c1_i32_1616
  let v933 : BitVec 32 := Scalar.addi c0_i32_1617 v932
  v933.toNat
def k0_dev55 (d0 : Dev nD) : Nat :=
  let c0_i32_1648 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1647 : BitVec 32 := 1#32
  let v950 : BitVec 32 := Scalar.muli v4 c1_i32_1647
  let v951 : BitVec 32 := Scalar.addi c0_i32_1648 v950
  v951.toNat
def k0_dev56 (d0 : Dev nD) : Nat :=
  let c0_i32_1680 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1679 : BitVec 32 := 1#32
  let v968 : BitVec 32 := Scalar.muli v4 c1_i32_1679
  let v969 : BitVec 32 := Scalar.addi c0_i32_1680 v968
  v969.toNat
def k0_dev57 (d0 : Dev nD) : Nat :=
  let c0_i32_1712 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1711 : BitVec 32 := 1#32
  let v986 : BitVec 32 := Scalar.muli v4 c1_i32_1711
  let v987 : BitVec 32 := Scalar.addi c0_i32_1712 v986
  v987.toNat
def k0_dev58 (d0 : Dev nD) : Nat :=
  let c0_i32_1744 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1743 : BitVec 32 := 1#32
  let v1004 : BitVec 32 := Scalar.muli v4 c1_i32_1743
  let v1005 : BitVec 32 := Scalar.addi c0_i32_1744 v1004
  v1005.toNat
def k0_dev59 (d0 : Dev nD) : Nat :=
  let c0_i32_1775 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1774 : BitVec 32 := 1#32
  let v1022 : BitVec 32 := Scalar.muli v4 c1_i32_1774
  let v1023 : BitVec 32 := Scalar.addi c0_i32_1775 v1022
  v1023.toNat
def k0_dev60 (d0 : Dev nD) : Nat :=
  let c0_i32_1807 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1806 : BitVec 32 := 1#32
  let v1040 : BitVec 32 := Scalar.muli v4 c1_i32_1806
  let v1041 : BitVec 32 := Scalar.addi c0_i32_1807 v1040
  v1041.toNat
def k0_dev61 (d0 : Dev nD) : Nat :=
  let c0_i32_1839 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1838 : BitVec 32 := 1#32
  let v1058 : BitVec 32 := Scalar.muli v4 c1_i32_1838
  let v1059 : BitVec 32 := Scalar.addi c0_i32_1839 v1058
  v1059.toNat
def k0_dev62 (d0 : Dev nD) : Nat :=
  let c0_i32_1871 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v3 : BitVec 32 := Scalar.addi v2 c2_i32
  let c32_i32_0 : BitVec 32 := 32#32
  let v4 : BitVec 32 := Scalar.remsi v3 c32_i32_0
  let c1_i32_1870 : BitVec 32 := 1#32
  let v1076 : BitVec 32 := Scalar.muli v4 c1_i32_1870
  let v1077 : BitVec 32 := Scalar.addi c0_i32_1871 v1076
  v1077.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x4096x512 : Shape := ⟨3, ![2, 4096, 512]⟩
abbrev S512x256 : Shape := ⟨2, ![512, 256]⟩
abbrev S2x4096x4x64 : Shape := ⟨4, ![2, 4096, 4, 64]⟩
abbrev S256x512 : Shape := ⟨2, ![256, 512]⟩
abbrev S2x4096x256 : Shape := ⟨3, ![2, 4096, 256]⟩
abbrev S4096 : Shape := ⟨1, ![4096]⟩
abbrev S_ : Shape := ⟨0, ![]⟩
abbrev S4096x1 : Shape := ⟨2, ![4096, 1]⟩
abbrev S1x4096 : Shape := ⟨2, ![1, 4096]⟩
abbrev S4096x4096 : Shape := ⟨2, ![4096, 4096]⟩
abbrev S2x4x4096x4096 : Shape := ⟨4, ![2, 4, 4096, 4096]⟩
abbrev S1x1x4096x4096 : Shape := ⟨4, ![1, 1, 4096, 4096]⟩
abbrev S2x4x4096 : Shape := ⟨3, ![2, 4, 4096]⟩
abbrev S2x4x4096x1 : Shape := ⟨4, ![2, 4, 4096, 1]⟩
abbrev S1x1x4096x1 : Shape := ⟨4, ![1, 1, 4096, 1]⟩
abbrev S2x4x64x4096 : Shape := ⟨4, ![2, 4, 64, 4096]⟩

abbrev nBuf : Space → Nat
  | .hbm => 137
  | .vmem => 0
  | .smem => 0
  | _ => 0

abbrev hbmTy0_0 (i : Nat) : BufTy := match i % 128 with
  | 0 => ⟨S2x4096x512, .f32⟩
  | 1 => ⟨S512x256, .f32⟩
  | 2 => ⟨S2x4096x4x64, .f32⟩
  | 3 => ⟨S2x4096x4x64, .f32⟩
  | 4 => ⟨S256x512, .f32⟩
  | 5 => ⟨S2x4096x256, .f32⟩
  | 6 => ⟨S2x4096x4x64, .f32⟩
  | 7 => ⟨S4096, .i32⟩
  | 8 => ⟨S_, .i32⟩
  | 9 => ⟨S_, .i32⟩
  | 10 => ⟨S4096, .i32⟩
  | 11 => ⟨S4096, .i32⟩
  | 12 => ⟨S4096, .i32⟩
  | 13 => ⟨S_, .i32⟩
  | 14 => ⟨S4096, .i32⟩
  | 15 => ⟨S4096, .i1⟩
  | 16 => ⟨S4096, .i32⟩
  | 17 => ⟨S4096, .i32⟩
  | 18 => ⟨S_, .i32⟩
  | 19 => ⟨S4096, .i32⟩
  | 20 => ⟨S4096, .i1⟩
  | 21 => ⟨S4096, .i1⟩
  | 22 => ⟨S_, .i32⟩
  | 23 => ⟨S4096, .i32⟩
  | 24 => ⟨S4096, .i32⟩
  | 25 => ⟨S4096, .i32⟩
  | 26 => ⟨S4096x1, .i32⟩
  | 27 => ⟨S4096, .i32⟩
  | 28 => ⟨S_, .i32⟩
  | 29 => ⟨S_, .i32⟩
  | 30 => ⟨S4096, .i32⟩
  | 31 => ⟨S4096, .i32⟩
  | 32 => ⟨S4096, .i32⟩
  | 33 => ⟨S_, .i32⟩
  | 34 => ⟨S4096, .i32⟩
  | 35 => ⟨S4096, .i1⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S4096, .i32⟩
  | 46 => ⟨S1x4096, .i32⟩
  | 47 => ⟨S4096x4096, .i32⟩
  | 48 => ⟨S4096x4096, .i32⟩
  | 49 => ⟨S4096x4096, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x4096, .i32⟩
  | 57 => ⟨S1x4096, .i32⟩
  | 58 => ⟨S_, .i32⟩
  | 59 => ⟨S1x4096, .i32⟩
  | 60 => ⟨S1x4096, .i1⟩
  | 61 => ⟨S_, .i32⟩
  | 62 => ⟨S1x4096, .i32⟩
  | 63 => ⟨S1x4096, .i1⟩
  | 64 => ⟨S_, .i32⟩
  | 65 => ⟨S_, .i1⟩
  | 66 => ⟨S1x4096, .i1⟩
  | 67 => ⟨S1x4096, .i1⟩
  | 68 => ⟨S1x4096, .i1⟩
  | 69 => ⟨S1x4096, .i32⟩
  | 70 => ⟨S1x4096, .i32⟩
  | 71 => ⟨S1x4096, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S4096x1, .i32⟩
  | 79 => ⟨S4096x1, .i32⟩
  | 80 => ⟨S_, .i32⟩
  | 81 => ⟨S4096x1, .i32⟩
  | 82 => ⟨S4096x1, .i1⟩
  | 83 => ⟨S_, .i32⟩
  | 84 => ⟨S4096x1, .i32⟩
  | 85 => ⟨S4096x1, .i1⟩
  | 86 => ⟨S_, .i32⟩
  | 87 => ⟨S_, .i1⟩
  | 88 => ⟨S4096x1, .i1⟩
  | 89 => ⟨S4096x1, .i1⟩
  | 90 => ⟨S4096x1, .i1⟩
  | 91 => ⟨S4096x1, .i32⟩
  | 92 => ⟨S4096x1, .i32⟩
  | 93 => ⟨S4096x1, .i32⟩
  | 94 => ⟨S4096x4096, .i32⟩
  | 95 => ⟨S4096x4096, .i32⟩
  | 96 => ⟨S4096x4096, .i1⟩
  | 97 => ⟨S4096x4096, .i1⟩
  | 98 => ⟨S2x4x4096x4096, .f32⟩
  | 99 => ⟨S_, .f32⟩
  | 100 => ⟨S2x4x4096x4096, .f32⟩
  | 101 => ⟨S2x4x4096x4096, .f32⟩
  | 102 => ⟨S1x1x4096x4096, .i1⟩
  | 103 => ⟨S_, .f32⟩
  | 104 => ⟨S_, .f32⟩
  | 105 => ⟨S2x4x4096x4096, .i1⟩
  | 106 => ⟨S2x4x4096x4096, .f32⟩
  | 107 => ⟨S2x4x4096x4096, .f32⟩
  | 108 => ⟨S_, .f32⟩
  | 109 => ⟨S2x4x4096, .f32⟩
  | 110 => ⟨S2x4x4096x1, .f32⟩
  | 111 => ⟨S2x4x4096x4096, .f32⟩
  | 112 => ⟨S2x4x4096x4096, .f32⟩
  | 113 => ⟨S2x4x4096x4096, .f32⟩
  | 114 => ⟨S_, .i1⟩
  | 115 => ⟨S4096, .i1⟩
  | 116 => ⟨S1x1x4096x1, .i1⟩
  | 117 => ⟨S_, .f32⟩
  | 118 => ⟨S2x4x4096, .f32⟩
  | 119 => ⟨S2x4x4096x1, .f32⟩
  | 120 => ⟨S_, .f32⟩
  | 121 => ⟨S_, .f32⟩
  | 122 => ⟨S2x4x4096x1, .i1⟩
  | 123 => ⟨S2x4x4096x1, .f32⟩
  | 124 => ⟨S2x4x4096x1, .f32⟩
  | 125 => ⟨S2x4x4096x4096, .f32⟩
  | 126 => ⟨S2x4x4096x4096, .f32⟩
  | 127 => ⟨S1x1x4096x1, .i1⟩
  | _ => ⟨S2x4096x512, .f32⟩

abbrev hbmTy0_1 (i : Nat) : BufTy := match i % 128 with
  | 0 => ⟨S_, .f32⟩
  | 1 => ⟨S_, .f32⟩
  | 2 => ⟨S2x4x4096x4096, .i1⟩
  | 3 => ⟨S2x4x4096x4096, .f32⟩
  | 4 => ⟨S2x4x4096x4096, .f32⟩
  | 5 => ⟨S2x4x64x4096, .f32⟩
  | 6 => ⟨S2x4096x4x64, .f32⟩
  | 7 => ⟨S2x4096x256, .f32⟩
  | 8 => ⟨S2x4096x512, .f32⟩
  | _ => ⟨S2x4096x512, .f32⟩

abbrev hbmTy (i : Nat) : BufTy := match i / 128 with
  | 0 => hbmTy0_0 i
  | 1 => hbmTy0_1 i
  | _ => ⟨S2x4096x512, .f32⟩

abbrev bufTy : (tb : Table) → Fin (tcTables nBuf tb) → BufTy
  | .hbm, ⟨i, _⟩ => hbmTy i
  | _, _ => ⟨S2x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.KernelIdeal.Program.lean ====
/-
  The kernel's body as a program over steps: the handshake and the loads that fill the buffers, the sixty copies around
  the ring, each after the first four with the wait it starts from, the last waits, the sixteen attention tiles, the projection.

  A step is written once, for any copy or tile, and the body is the sequence of the steps in the order in which the kernel runs them (`body_eq`).
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Regions
public import Idealize.ShloMosaic.Lib.Pipeline.RegionTalk
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic Idealize.SL.Sem
open Idealize.ShloMosaic.TcCoe

variable {F : FTy → Type} [FloatOps F]

/-! ## The buffers -/

/-- The staged operands: activations, query weights, key block, value block, output weights; and the staged result. -/
abbrev xM : Memref sig .tc .vmem S2x128x512 .f32 := Memref.whole cc0_stg0_0
abbrev wqM : Memref sig .tc .vmem S512x256 .f32 := Memref.whole cc0_stg1_0
abbrev keyM : Memref sig .tc .vmem S2x128x256 .f32 := Memref.whole cc0_stg2_0
abbrev valM : Memref sig .tc .vmem S2x128x256 .f32 := Memref.whole cc0_stg3_0
abbrev woM : Memref sig .tc .vmem S256x512 .f32 := Memref.whole cc0_stg4_0
abbrev outM : Memref sig .tc .vmem S2x128x512 .f32 := Memref.whole cc0_stg5_0
/-- The sixteen slots of keys and values, the queries, the attention's result. -/
abbrev kvM : Memref sig .tc .vmem S16x2x2x128x256 .bf16 := Memref.whole cc0_scratch0
abbrev qM : Memref sig .tc .vmem S2x128x256 .bf16 := Memref.whole cc0_scratch1
abbrev ctxM : Memref sig .tc .vmem S2x128x256 .f32 := Memref.whole cc0_scratch2

/-- The runtime's barrier semaphore. -/
abbrev barS : Sem sig := (SemArray.scalar (sig.barrier 0 rfl) : Sems sig S_).sem

/-- Where lane `j` of slot `s` lies. -/
theorem lane_inb : ∀ (s : Fin 16) (j : Fin 4) (a : Fin 5),
    (![s.val, j.val / 2, j.val % 2, 0, 0] : Fin 5 → Nat) a + S1x1x1x128x256.size a ≤ S16x2x2x128x256.size a := by decide

abbrev laneRect (s : Fin 16) (j : Fin 4) : Rect S16x2x2x128x256 :=
  Rect.unit (s := S16x2x2x128x256) ![s.val, j.val / 2, j.val % 2, 0, 0] S1x1x1x128x256.size (lane_inb s j)

/-- Lane `j` of slot `s`: the keys (`j < 2`) or the values of one batch row of the device that slot `s` is from. -/
abbrev lane (s : Fin 16) (j : Fin 4) : Memref sig .tc .vmem S128x256 .bf16 :=
  ((kvM : Memref sig .tc .vmem S16x2x2x128x256 .bf16).slice (laneRect s j) (fun _ => rfl)).squeeze S128x256 squeezes_S1x1x1x128x256_S128x256

theorem lane_words : ∀ (s : Fin 16) (j : Fin 4), (laneRect s j).WholeWords (EltTy.packing .bf16) := by decide

theorem lane_exact (s : Fin 16) (j : Fin 4) : (lane s j).view.WordExact :=
  ((Memref.isWhole_whole cc0_scratch0).wordExact_slice rfl _ (lane_words s j)).reshape _ _

theorem sem_inb : ∀ (j : Fin 4) (h : Fin 15) (a : Fin 2), (![j.val, h.val] : Fin 2 → Nat) a + S1x1.size a ≤ S4x15.size a := by decide

/-- Piece `p` of the slots, of sixty-four: lane `p % 4` of slot `p / 4`. Copy `n` of sixty is out of piece `n` and into the
    right neighbour's piece `n + 4`. -/
abbrev slotOf (p : Nat) : Fin 16 := ⟨p / 4 % 16, Nat.mod_lt _ (by decide)⟩
abbrev laneOf (p : Nat) : Fin 4 := ⟨p % 4, Nat.mod_lt _ (by decide)⟩
abbrev hopOf (n : Nat) : Fin 15 := ⟨n / 4 % 15, Nat.mod_lt _ (by decide)⟩
abbrev piece (p : Nat) : Memref sig .tc .vmem S128x256 .bf16 := lane (slotOf p) (laneOf p)

theorem piece_exact (p : Nat) : (piece p).view.WordExact := lane_exact (slotOf p) (laneOf p)

/-- The semaphore of copy `n`, of an array of one per lane and hop. -/
abbrev semAt (A : DmaSems sig S4x15) (n : Nat) : DmaSem sig :=
  ((A.slice (Rect.unit (s := S4x15) ![(laneOf n).val, (hopOf n).val] S1x1.size (sem_inb (laneOf n) (hopOf n)))).squeeze S_ squeezes_S1x1_S_).sem

/-- What copy `n` signals on the sender when it has left, and on the receiver when it has arrived. -/
abbrev sendS (n : Nat) : DmaSem sig := semAt cc0_scratch3 n
abbrev recvS (n : Nat) : DmaSem sig := semAt cc0_scratch4 n

/-! ## The steps -/

abbrev TProg (F : FTy → Type) [FloatOps F] : Type 1 := Prog (TpuEff nD τ sig (Elt F) Λ₀ .tc) PUnit

/-- The neighbour a device copies to. -/
abbrev right (c : Dev nD) : Dev nD := ⟨k0_dev2 c, k0_dev2_lt c⟩
/-- The neighbour that copies to a device. -/
abbrev left (c : Dev nD) : Dev nD := ⟨k0_dev1 c, k0_dev1_lt c⟩

/-- Start copy `n`. -/
def sendStep (c : Dev nD) (n : Nat) (k : TProg F) : TProg F :=
  .op (.enqueueDma (piece n) (.remote (Dev.tc (right c)) (piece (n + 4)) (.dma (sendS n))) (.dma (recvS n))
    (piece_exact n) (piece_exact (n + 4)) ⟨⟨rfl, Or.inl rfl⟩, trivial⟩) fun _ => k

/-- Wait until copy `n` from the left neighbour has arrived. -/
def recvStep (n : Nat) (k : TProg F) : TProg F :=
  .op (.waitDma2 (recvS n) (piece n) (piece (n + 4)) (piece_exact n) (piece_exact (n + 4))) fun _ => k

/-- Wait until copy `n` has left. -/
def sentStep (n : Nat) (k : TProg F) : TProg F :=
  .op (.waitDma2 (sendS n) (piece (n + 4)) (piece n) (piece_exact (n + 4)) (piece_exact n)) fun _ => k

/-- What came in with copy `n` goes on with copy `n + 4`. -/
def relayStep (c : Dev nD) (n : Nat) (k : TProg F) : TProg F := recvStep n (sendStep c (n + 4) k)

/-- Steps `n`, `n + 1`, …, `l` of them. -/
def steps (step : Nat → TProg F → TProg F) : (l n : Nat) → TProg F → TProg F
  | 0, _, k => k
  | l + 1, n, k => step n (steps step l (n + 1) k)

/-! ### The attention tiles -/

/-- Tile `g`: batch row, head, and half of the device's rows. -/
abbrev tb (g : Fin 16) : Nat := g.val / 8
abbrev th (g : Fin 16) : Nat := g.val / 2 % 4
abbrev tr (g : Fin 16) : Nat := g.val % 2

theorem tile_inb : ∀ (g : Fin 16) (a : Fin 3),
    (![tb g, 64 * tr g, 64 * th g] : Fin 3 → Nat) a + S1x64x64.size a ≤ S2x128x256.size a := by decide
theorem tiles_inb : ∀ (kv : Fin 2) (g : Fin 16) (a : Fin 5),
    (![0, kv.val, tb g, 64 * tr g, 64 * th g] : Fin 5 → Nat) a + S16x1x1x64x64.size a ≤ S16x2x2x128x256.size a := by decide

/-- The tile's place in the queries and in the result; -/
abbrev tileRect (g : Fin 16) : Rect S2x128x256 :=
  Rect.unit (s := S2x128x256) ![tb g, 64 * tr g, 64 * th g] S1x64x64.size (tile_inb g)
/-- and in the keys (`kv = 0`) or values of all sixteen slots. -/
abbrev tilesRect (kv : Fin 2) (g : Fin 16) : Rect S16x2x2x128x256 :=
  Rect.unit (s := S16x2x2x128x256) ![0, kv.val, tb g, 64 * tr g, 64 * th g] S16x1x1x64x64.size (tiles_inb kv g)

/-- Tile `g`: its queries, keys and values are read, and its part of the result is written. -/
def tileAt (g : Fin 16) (k : TProg F) : TProg F :=
  .op (.load qM (tileRect g).toLoadRect (View.loadsAt_vmem h_S1x64x64)) fun q : Vec F S1x64x64 .bf16 =>
  .op (.load kvM (tilesRect 0 g).toLoadRect (View.loadsAt_vmem h_S16x1x1x64x64)) fun ks : Vec F S16x1x1x64x64 .bf16 =>
  .op (.load kvM (tilesRect 1 g).toLoadRect (View.loadsAt_vmem h_S16x1x1x64x64)) fun vs : Vec F S16x1x1x64x64 .bf16 =>
  .op (.load ctxM (tileRect g).toLoadRect (View.loadsAt_vmem h_S1x64x64)) fun _ : Vec F S1x64x64 .f32 =>
  .op (.store ctxM (tileRect g) (k0_pay10 q ks vs) Finset.univ (View.stores_vmem_bits_univ h_S1x64x64 rfl) (.inl rfl)) fun _ => k

abbrev tileOf (n : Nat) : Fin 16 := ⟨n % 16, Nat.mod_lt _ (by decide)⟩
def tileStep (n : Nat) (k : TProg F) : TProg F := tileAt (tileOf n) k

/-! ### The first and the last steps -/

theorem own_inb : ∀ (kv : Fin 2) (a : Fin 5),
    (![0, kv.val, 0, 0, 0] : Fin 5 → Nat) a + S1x1x2x128x256.size a ≤ S16x2x2x128x256.size a := by decide
abbrev ownRect (kv : Fin 2) : Rect S16x2x2x128x256 :=
  Rect.unit (s := S16x2x2x128x256) ![0, kv.val, 0, 0, 0] S1x1x2x128x256.size (own_inb kv)
theorem own_rows : ∀ kv : Fin 2, (ownRect kv).PackedRows (EltTy.packing .bf16) := by decide

abbrev actRect : Rect S2x128x512 := Rect.unit (s := S2x128x512) ![0, 0, 0] S2x128x512.size inb_S2x128x512_S2x128x512_0_0_0
abbrev headRect : Rect S2x128x256 := Rect.unit (s := S2x128x256) ![0, 0, 0] S2x128x256.size inb_S2x128x256_S2x128x256_0_0_0
abbrev wqRect : Rect S512x256 := Rect.unit (s := S512x256) ![0, 0] S512x256.size inb_S512x256_S512x256_0_0
abbrev woRect : Rect S256x512 := Rect.unit (s := S256x512) ![0, 0] S256x512.size inb_S256x512_S256x512_0_0

/-- Tell both neighbours that this device is in the kernel, and wait until both have. -/
def handshake (c : Dev nD) (k : TProg F) : TProg F :=
  .op (.semSignal (Dev.tc (left c)) barS (1#32).toInt) fun _ =>
  .op (.semSignal (Dev.tc (right c)) barS (1#32).toInt) fun _ =>
  .op (.semWait barS (2#32).toInt) fun _ => k

/-- Round the staged block `src` and put it in slot 0, as keys (`kv = 0`) or values. -/
def fillStep (kv : Fin 2) (src : Memref sig .tc .vmem S2x128x256 .f32) (k : TProg F) : TProg F :=
  .op (.load src headRect.toLoadRect (View.loadsAt_vmem h_S2x128x256)) fun x : Vec F S2x128x256 .f32 =>
  .op (.load kvM (ownRect kv).toLoadRect (View.loadsAt_vmem h_S1x1x2x128x256)) fun _ : Vec F S1x1x2x128x256 .bf16 =>
  .op (.store kvM (ownRect kv) (k0_pay3 x) Finset.univ (View.stores_vmem h_S1x1x2x128x256
    ((Memref.isWhole_whole cc0_scratch0).storeExact_slice rfl _ (own_rows kv)) (fun _ => rfl)) (.inl rfl)) fun _ => k

/-- The queries: the activations against the query weights, scaled and rounded. -/
def queryStep (k : TProg F) : TProg F :=
  .op (.load xM actRect.toLoadRect (View.loadsAt_vmem h_S2x128x512)) fun x : Vec F S2x128x512 .f32 =>
  .op (.load wqM wqRect.toLoadRect (View.loadsAt_vmem h_S512x256)) fun w : Vec F S512x256 .f32 =>
  .op (.load qM headRect.toLoadRect (View.loadsAt_vmem h_S2x128x256)) fun _ : Vec F S2x128x256 .bf16 =>
  .op (.store qM headRect (k0_pay6 x w) Finset.univ (View.stores_vmem h_S2x128x256
    ((Memref.isWhole_whole cc0_scratch1).storeExact_slice rfl _ packedbf16_S2x128x256_S2x128x256_0_0_0) (fun _ => rfl)) (.inl rfl)) fun _ => k

/-- The projection: the attention's result against the output weights. -/
def outStep : TProg F :=
  .op (.load ctxM headRect.toLoadRect (View.loadsAt_vmem h_S2x128x256)) fun x : Vec F S2x128x256 .f32 =>
  .op (.load woM woRect.toLoadRect (View.loadsAt_vmem h_S256x512)) fun w : Vec F S256x512 .f32 =>
  .op (.load outM actRect.toLoadRect (View.loadsAt_vmem h_S2x128x512)) fun _ : Vec F S2x128x512 .f32 =>
  .op (.store outM actRect (k0_pay2 x w) Finset.univ (View.stores_vmem_bits_univ h_S2x128x512 rfl) (.inl rfl)) fun _ => .ret ⟨⟩

/-- The body, step by step. -/
def body : TProg F :=
  .op .deviceId fun c : Dev nD =>
  handshake c <| fillStep 0 keyM <| fillStep 1 valM <| queryStep <|
  steps (sendStep c) 4 0 <| steps (relayStep c) 56 0 <| steps recvStep 4 56 <| steps sentStep 60 0 <| steps tileStep 16 0 outStep

/-- The kernel's function at its buffers. -/
abbrev kernelBody : TProg F :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4

set_option maxRecDepth 65536 in
/-- The kernel's function is these steps in this order. -/
theorem body_eq : kernelBody (F := F) = body := by chain_rfl

end Cert.KernelIdeal.Ring
-- ==== Proof.KernelIdeal.Contents.lean ====
/-
  What the slots hold: slot `s` of a device is the key and value block of the device `2 s` places back around the ring of
  equal parity. The sixty-four pieces the slots are cut into, which elements each is, and what a copy leaves in one.
-/
module

public import proofs.«01_k».proof.Proof.KernelIdeal.Program

@[expose] public section

noncomputable section

namespace Cert.KernelIdeal.Ring

open Cert.KernelIdeal Cert.KernelIdeal.Gen
open Idealize.ShloMosaic Idealize.SL.Sem
open Idealize.ShloMosaic.TcCoe

variable {F : FTy → Type} [FloatOps F]

/-! ## The neighbours -/

set_option maxRecDepth 65536 in
theorem right_left : ∀ c : Dev nD, right (left c) = c := by decide +kernel
set_option maxRecDepth 65536 in
theorem left_right : ∀ c : Dev nD, left (right c) = c := by decide +kernel

/-- The step to the right as a permutation of the devices. -/
def ring : Dev nD ≃ Dev nD := ⟨right, left, left_right, right_left⟩

/-- The device slot `s` of device `c` is from: `s` steps to the left. -/
def source (c : Dev nD) (s : Nat) : Dev nD := left^[s] c

theorem source_zero (c : Dev nD) : source c 0 = c := rfl
theorem source_right (c : Dev nD) (s : Nat) : source (right c) (s + 1) = source c s := by
  show left^[s] (left (right c)) = left^[s] c
  rw [left_right]

/-! ## The contents -/

/-- What every device's launch operands hold, as staged. -/
structure Staged (F : FTy → Type) [FloatOps F] where
  x : Dev nD → Vec F S2x128x512 .f32
  wq : Dev nD → Vec F S512x256 .f32
  key : Dev nD → Vec F S2x128x256 .f32
  val : Dev nD → Vec F S2x128x256 .f32
  wo : Dev nD → Vec F S256x512 .f32

/-- A position among the slots, as a position of a device's own block. -/
def ownIdx (i : S16x2x2x128x256.Idx) : S1x1x2x128x256.Idx
  | 0 => ⟨0, by decide⟩
  | 1 => ⟨0, by decide⟩
  | 2 => i 2
  | 3 => i 3
  | 4 => i 4

variable (A : Staged F)

/-- The rounded block a device puts in its slot 0: keys (`kv = 0`) or values. -/
def ownBlk (d : Dev nD) (kv : Nat) : Vec F S1x1x2x128x256 .bf16 := k0_pay3 (if kv = 0 then A.key d else A.val d)

/-- All sixteen slots of a device, once every copy has arrived. -/
def slots (c : Dev nD) : (cc0_scratch0 : Ref sig .tc).ty.Contents (Elt F) :=
  fun i : S16x2x2x128x256.Idx => ownBlk A (source c (i 0).val) (i 1).val (ownIdx i)

/-- The queries. -/
def queries (c : Dev nD) : (cc0_scratch1 : Ref sig .tc).ty.Contents (Elt F) := k0_pay6 (A.x c) (A.wq c)

/-! ## The pieces -/

theorem piece_set (p : Nat) : (piece p).view.set = (laneRect (slotOf p) (laneOf p)).set := by
  show ((((View.whole cc0_scratch0).slice (laneRect (slotOf p) (laneOf p))).reshape S128x256 _).set) = _
  rw [View.set_reshape]
  exact View.set_slice_whole cc0_scratch0 (laneRect (slotOf p) (laneOf p))

theorem mem_lane (s : Fin 16) (j : Fin 4) (i : S16x2x2x128x256.Idx) :
    i ∈ (laneRect s j).set ↔ (i 0).val = s.val ∧ (i 1).val = j.val / 2 ∧ (i 2).val = j.val % 2 := by
  rw [Rect.mem_set_unit]
  constructor
  · intro h
    have h0 := h 0; have h1 := h 1; have h2 := h 2
    simp only [Matrix.cons_val_zero, Matrix.cons_val_one, Matrix.cons_val, Fin.isValue, S1x1x1x128x256] at h0 h1 h2
    omega
  · rintro ⟨h0, h1, h2⟩ a
    have b3 := (i 3).isLt; have b4 := (i 4).isLt
    fin_cases a
    · show s.val ≤ (i 0).val ∧ (i 0).val < s.val + 1; omega
    · show j.val / 2 ≤ (i 1).val ∧ (i 1).val < j.val / 2 + 1; omega
    · show j.val % 2 ≤ (i 2).val ∧ (i 2).val < j.val % 2 + 1; omega
    · show 0 ≤ (i 3).val ∧ (i 3).val < 0 + 128; exact ⟨Nat.zero_le _, by simpa using b3⟩
    · show 0 ≤ (i 4).val ∧ (i 4).val < 0 + 256; exact ⟨Nat.zero_le _, by simpa using b4⟩

/-- The piece a position lies in. -/
def pieceAt (i : S16x2x2x128x256.Idx) : Nat := 4 * (i 0).val + 2 * (i 1).val + (i 2).val

theorem pieceAt_lt (i : S16x2x2x128x256.Idx) : pieceAt i < 64 := by
  have h0 : (i 0).val < 16 := (i 0).isLt
  have h1 : (i 1).val < 2 := (i 1).isLt
  have h2 : (i 2).val < 2 := (i 2).isLt
  unfold pieceAt; omega

theorem mem_piece {p : Nat} (hp : p < 64) (i : S16x2x2x128x256.Idx) : i ∈ (piece p).view.set ↔ pieceAt i = p := by
  rw [piece_set]
  refine (mem_lane _ _ i).trans ?_
  have h0 : (i 0).val < 16 := (i 0).isLt
  have h1 : (i 1).val < 2 := (i 1).isLt
  have h2 : (i 2).val < 2 := (i 2).isLt
  unfold pieceAt
  show (i 0).val = p / 4 % 16 ∧ (i 1).val = p % 4 / 2 ∧ (i 2).val = p % 4 % 2 ↔ _
  omega

/-- The elements of the first `n` pieces. -/
def upTo (n : Nat) : Finset S16x2x2x128x256.Idx := Finset.univ.filter fun i => pieceAt i < n

theorem pieces_disjoint {n : Nat} (hn : n ≤ 64) : ∀ p ∈ Finset.Ico 0 n, ∀ p' ∈ Finset.Ico 0 n, p ≠ p' →
    Disjoint (piece p).view.set (piece p').view.set := by
  intro p hp p' hp' hne
  rw [Finset.mem_Ico] at hp hp'
  rw [Finset.disjoint_left]
  intro i hi hi'
  exact hne (((mem_piece (by omega) i).mp hi).symm.trans ((mem_piece (by omega) i).mp hi'))

theorem pieces_cover {n : Nat} (hn : n ≤ 64) : (Finset.Ico 0 n).biUnion (fun p => (piece p).view.set) = upTo n := by
  ext i
  rw [Finset.mem_biUnion, upTo, Finset.mem_filter]
  constructor
  · rintro ⟨p, hp, hi⟩
    rw [Finset.mem_Ico] at hp
    exact ⟨Finset.mem_univ _, by rw [(mem_piece (by omega) i).mp hi]; exact hp.2⟩
  · rintro ⟨-, h⟩
    exact ⟨pieceAt i, Finset.mem_Ico.mpr ⟨Nat.zero_le _, h⟩, (mem_piece (by omega) i).mpr rfl⟩

theorem upTo_all : upTo 64 = Finset.univ := by
  ext i; simp only [upTo, Finset.mem_filter, Finset.mem_univ, true_and, pieceAt_lt]

theorem mem_upTo_four (i : S16x2x2x128x256.Idx) : i ∈ upTo 4 ↔ (i 0).val = 0 := by
  have h1 : (i 1).val < 2 := (i 1).isLt
  have h2 : (i 2).val < 2 := (i 2).isLt
  rw [upTo, Finset.mem_filter]
  simp only [Finset.mem_univ, true_and]
  unfold pieceAt
  omega

/-! ## What a copy leaves -/

theorem slots_lane (c : Dev nD) (s s' : Fin 16) (j : Fin 4) (hs : s'.val = s.val + 1) (y : (laneRect s j).shape.Idx) :
    slots A (right c) ((laneRect s' j).emb y) = slots A c ((laneRect s j).emb y) := by
  have e : ∀ (t : Fin 16) (a : Fin 5), ((laneRect t j).emb y a : Nat) = (![t.val, j.val / 2, j.val % 2, 0, 0] : Fin 5 → Nat) a + 1 * (y a).val :=
    fun t a => Rect.emb_apply (r := laneRect t j) y a
  have y0 : (y 0).val = 0 := by have := (y 0).isLt; exact Nat.lt_one_iff.mp this
  have own : ownIdx ((laneRect s' j).emb y) = ownIdx ((laneRect s j).emb y) := by
    have q : ∀ a : Fin 5, (![s'.val, j.val / 2, j.val % 2, 0, 0] : Fin 5 → Nat) a = (![s.val, j.val / 2, j.val % 2, 0, 0] : Fin 5 → Nat) a →
        ((laneRect s' j).emb y a : Nat) = ((laneRect s j).emb y a : Nat) := fun a h => by rw [e s' a, e s a, h]
    funext a
    fin_cases a
    · rfl
    · rfl
    · exact Fin.ext (q 2 rfl)
    · exact Fin.ext (q 3 rfl)
    · exact Fin.ext (q 4 rfl)
  have d : source (right c) ((laneRect s' j).emb y 0).val = source c ((laneRect s j).emb y 0).val := by
    rw [e s' 0, e s 0, y0]
    show source (right c) (s'.val + 1 * 0) = source c (s.val + 1 * 0)
    rw [Nat.mul_zero, Nat.add_zero, Nat.add_zero, hs, source_right]
  have k : ((laneRect s' j).emb y 1).val = ((laneRect s j).emb y 1).val := (e s' 1).trans (e s 1).symm
  unfold slots
  rw [own, d, k]

theorem landed_lane (c : Dev nD) (s s' : Fin 16) (j j' : Fin 4) (hs : s'.val = s.val + 1) (hj : j' = j)
    (fd : (cc0_scratch0 : Ref sig .tc).ty.Contents (Elt F)) :
    ∀ i ∈ (lane s' j').view.set,
      (lane s' j').view.write (Elt F) fd ((lane s j).view.read (Elt F) (slots A c)) Finset.univ i = slots A (right c) i := by
  subst hj
  intro i hi
  obtain ⟨x, -, rfl⟩ := Finset.mem_map.mp hi
  rw [View.write_emb_of_mem _ _ (Finset.mem_univ x), View.read_apply]
  exact (slots_lane A c s s' j' hs (Shape.reshapeEquiv squeezes_S1x1x1x128x256_S128x256.numel_eq x)).symm

/-- Copy `n`, out of a device's slots, leaves in the right neighbour's piece what that device's slots are to hold there. -/
theorem landed (c : Dev nD) {n : Nat} (hn : n < 60) (fd : (cc0_scratch0 : Ref sig .tc).ty.Contents (Elt F)) :
    ∀ i ∈ (piece (n + 4)).view.set,
      (piece (n + 4)).view.write (Elt F) fd ((piece n).view.read (Elt F) (slots A c)) Finset.univ i = slots A (right c) i :=
  landed_lane A c (slotOf n) (slotOf (n + 4)) (laneOf n) (laneOf (n + 4)) (by show (n + 4) / 4 % 16 = n / 4 % 16 + 1; omega)
    (Fin.ext (by show (n + 4) % 4 = n % 4; omega)) fd

/-! ## What the two loads of a device's own block leave -/

/-- Slot 0 after keys or values were put in it: the rounded block there, everything else as it was. -/
theorem fill_apply (kv : Fin 2) (f : (cc0_scratch0 : Ref sig .tc).ty.Contents (Elt F)) (w : Vec F S1x1x2x128x256 .bf16) (i : S16x2x2x128x256.Idx) :
    (kvM.access (ownRect kv)).write (Elt F) f w Finset.univ i = if (i 0).val = 0 ∧ (i 1).val = kv.val then w (ownIdx i) else f i := by
  split
  · rename_i h
    have e : i = (kvM.access (ownRect kv)).emb (ownIdx i) := by
      funext a
      refine Fin.ext (Eq.symm ((Rect.emb_apply (r := ownRect kv) (ownIdx i) a).trans ?_))
      fin_cases a
      · show 0 + 1 * 0 = (i 0).val; omega
      · show kv.val + 1 * 0 = (i 1).val; omega
      · show 0 + 1 * (i 2).val = (i 2).val; omega
      · show 0 + 1 * (i 3).val = (i 3).val; omega
      · show 0 + 1 * (i 4).val = (i 4).val; omega
    conv_lhs => rw [e]
    rw [View.write_emb_of_mem _ _ (Finset.mem_univ (ownIdx i))]
    rfl
  · rename_i h
    refine View.write_of_not_mem _ _ _ fun hi => h ?_
    obtain ⟨x, -, rfl⟩ := Finset.mem_map.mp hi
    have e := Rect.emb_apply (r := ownRect kv) x
    have x0 : (x 0).val = 0 := Nat.lt_one_iff.mp (x 0).isLt
    have x1 : (x 1).val = 0 := Nat.lt_one_iff.mp (x 1).isLt
    refine ⟨(e 0).trans ?_, (e 1).trans ?_⟩
    · show 0 + 1 * (x 0).val = 0; omega
    · show kv.val + 1 * (x 1).val = kv.val; omega

/-- After both, slot 0 is what the slots are to hold there. -/
theorem filled (c : Dev nD) (f : (cc0_scratch0 : Ref sig .tc).ty.Contents (Elt F)) :
    ∀ i ∈ upTo 4, (kvM.access (ownRect 1)).write (Elt F) ((kvM.access (ownRect 0)).write (Elt F) f (k0_pay3 (A.key c)) Finset.univ)
      (k0_pay3 (A.val c)) Finset.univ i = slots A c i := by
  intro i hi
  have h0 := (mem_upTo_four i).mp hi
  have h1 : (i 1).val < 2 := (i 1).isLt
  rw [fill_apply, fill_apply]
  unfold slots ownBlk
  rw [h0, source_zero]
  obtain h | h : (i 1).val = 0 ∨ (i 1).val = 1 := by omega
  · rw [if_neg (by rintro ⟨-, e⟩; rw [h] at e; exact absurd e (by decide)), if_pos ⟨rfl, h⟩, h]; rfl
  · rw [if_pos ⟨rfl, h⟩, h]; rfl

end Cert.KernelIdeal.Ring
-- ==== Proof.KernelIdeal.Schedule.lean ====
/-
  Who hands what to whom: the cells of the kernel's semaphores, what each is paid and by whom, what every device owes at the
  launch and when it may wait.

  A barrier cell is paid twice: by the right neighbour, with every piece of its slots but the four of slot 0 (the sender writes
  them), and by the left neighbour, with nothing. The receive cell of copy `n` is paid by the left neighbour's copy, with piece
  `n + 4` at the contents the slots end with; the send cell of copy `n`, with piece `n` back.
-/
module

public import proofs.«01_k».proof.Proof.KernelIdeal.Contents
public import Idealize.ShloMosaic.Lib.Rounds
public import Mathlib.Algebra.BigOperators.Intervals

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The cells -/

/-- The pipeline's rounds beside the kernel's own. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev barCell (c : Dev nD) : GSem nD τ sig := ((c : Thread nD τ), .reg barS)
abbrev sendCell (c : Dev nD) (n : Nat) : GSem nD τ sig := ((c : Thread nD τ), .dma (sendS n))
abbrev recvCell (c : Dev nD) (n : Nat) : GSem nD τ sig := ((c : Thread nD τ), .dma (recvS n))

/-- What a semaphore is for: the barrier, or the sending (`false`) or receiving end of a copy. -/
abbrev Role : Type := Option (Bool × Fin 60)
/-- The semaphore of a role. -/
def ofRole : Role → SemLoc sig
  | none => .reg barS
  | some (false, n) => .dma (sendS n.val)
  | some (true, n) => .dma (recvS n.val)

set_option maxRecDepth 65536 in
theorem sendS_val : ∀ n : Fin 60, (sendS n.val).val = 6 + (n.val % 4 * 15 + n.val / 4) := by decide +kernel
set_option maxRecDepth 65536 in
theorem recvS_val : ∀ n : Fin 60, (recvS n.val).val = 66 + (n.val % 4 * 15 + n.val / 4) := by decide +kernel

theorem ofRole_injective : Function.Injective ofRole := by
  have ss : ∀ n n' : Fin 60, sendS n.val = sendS n'.val → n = n' := fun n n' h => by
    have := sendS_val n; have := sendS_val n'; have := congrArg Fin.val h
    have := n.isLt; have := n'.isLt
    exact Fin.ext (by omega)
  have rr : ∀ n n' : Fin 60, recvS n.val = recvS n'.val → n = n' := fun n n' h => by
    have := recvS_val n; have := recvS_val n'; have := congrArg Fin.val h
    have := n.isLt; have := n'.isLt
    exact Fin.ext (by omega)
  have sr : ∀ n n' : Fin 60, sendS n.val = recvS n'.val → False := fun n n' h => by
    have := sendS_val n; have := recvS_val n'; have := congrArg Fin.val h
    have := n.isLt; have := n'.isLt
    omega
  rintro (_ | ⟨_ | _, n⟩) (_ | ⟨_ | _, n'⟩) h
  · rfl
  · cases h
  · cases h
  · cases h
  · rw [ss n n' (SemLoc.dma.inj h)]
  · exact (sr n n' (SemLoc.dma.inj h)).elim
  · cases h
  · exact (sr n' n (SemLoc.dma.inj h).symm).elim
  · rw [rr n n' (SemLoc.dma.inj h)]

/-- The role of a semaphore, if it has one. -/
def role (sm : SemLoc sig) : Option Role := Function.partialInv ofRole sm

theorem role_ofRole (k : Role) : role (ofRole k) = some k := Function.partialInv_left ofRole_injective k
theorem role_bar : role (.reg barS) = some none := role_ofRole none
theorem role_send {n : Nat} (hn : n < 60) : role (.dma (sendS n)) = some (some (false, ⟨n, hn⟩)) := role_ofRole (some (false, ⟨n, hn⟩))
theorem role_recv {n : Nat} (hn : n < 60) : role (.dma (recvS n)) = some (some (true, ⟨n, hn⟩)) := role_ofRole (some (true, ⟨n, hn⟩))

/-! ## Pieces held -/

variable (A : Staged F)

/-- Piece `p` of a device's slots, at the contents `f` has there. -/
def pieceAs (c : Dev nD) (p : Nat) (f : (cc0_scratch0 : Ref sig .tc).ty.Contents (Elt F)) : sProp 𝕄 :=
  (piece p).view.loc (c : Thread nD τ) ↦[(piece p).view.set]{fullShare} f
/-- At what the slots end with, and at anything. -/
abbrev held (c : Dev nD) (p : Nat) : sProp 𝕄 := pieceAs c p (slots A c)
abbrev free (c : Dev nD) (p : Nat) : sProp 𝕄 := iprop(∃ f, pieceAs c p f)

/-- What one copy credits. -/
abbrev N : ℕ := (piece 0).view.dmaCredit
theorem N_pos : 0 < N := View.dmaCredit_pos _ (by decide)
theorem credit_eq (p : Nat) : (piece p).view.dmaCredit = N := rfl

/-! ## The schedule -/

/-- What a device's right neighbour hands it: its pieces past slot 0, and that its receive cells are set up. -/
def handover (c : Dev nD) : sProp 𝕄 :=
  iprop(bigSep (Finset.Ico 4 64) (fun p => free (F := F) (right c) p) ∗ bigSep (Finset.Ico 0 60) fun n => reached ER (recvCell (right c) n) 0)

/-- What is paid into a semaphore of a role. -/
def pay (c : Dev nD) (d : Bool) : Role → sProp 𝕄
  | none => if d then handover c else iprop(emp)
  | some (false, n) => held A c n.val
  | some (true, n) => held A c (n.val + 4)

/-- Who pays: the barrier is paid twice, every other semaphore once. -/
def payers : Option Role → Finset Bool
  | none => ∅
  | some none => Finset.univ
  | some (some _) => {false}

def units : Option Role → ℕ
  | some (some _) => N
  | _ => 1

theorem units_pos (k : Option Role) : 0 < units k := by
  rcases k with _ | _ | k
  · exact Nat.one_pos
  · exact Nat.one_pos
  · exact N_pos

/-- The kernel's schedule: one round. -/
def talk : Rounds.Schedule (GSem nD τ sig) Bool 𝕄 where
  duties g r := if r = 0 ∧ g.1.2 = .tc then payers (role g.2) else ∅
  unitless _ := False
  amount g _ _ := units (role g.2)
  payload g _ d := (role g.2).elim iprop(emp) (pay A g.1.1 d)
  amount_pos g _ _ _ := units_pos _

instance pieceAs_storable (c : Dev nD) (p : Nat) (f : (cc0_scratch0 : Ref sig .tc).ty.Contents (Elt F)) :
    BI.Storable (upEmb : UEmb _ 𝕄) (pieceAs c p f) := by
  unfold pieceAs; infer_instance

instance pay_storable (c : Dev nD) (d : Bool) (k : Role) : BI.Storable (upEmb : UEmb _ 𝕄) (pay A c d k) := by
  rcases k with _ | ⟨_ | _, n⟩
  · cases d <;> simp only [pay, handover, if_true, Bool.false_eq_true, if_false] <;> infer_instance
  · simp only [pay]; infer_instance
  · simp only [pay]; infer_instance

instance talk_storable (g : GSem nD τ sig) (r : ℕ) (d : Bool) : BI.Storable (upEmb : UEmb _ 𝕄) ((talk A).payload g r d) := by
  show BI.Storable upEmb ((role g.2).elim iprop(emp) (pay A g.1.1 d))
  cases role g.2
  · simp only [Option.elim]; infer_instance
  · simp only [Option.elim]; infer_instance

section Facts

variable (c : Dev nD) (k : Role) (d : Bool)

/-- The cell of a role. -/
abbrev cellAt : GSem nD τ sig := ((c : Thread nD τ), ofRole k)

theorem duties_at : (talk A).duties (cellAt c k) 0 = payers (some k) := by
  dsimp only [talk]; rw [if_pos ⟨rfl, rfl⟩, role_ofRole]
theorem mem_duties (h : d ∈ payers (some k)) : d ∈ (talk A).duties (cellAt c k) 0 := by
  rw [duties_at]; exact h
theorem amount_at : (talk A).amount (cellAt c k) 0 d = units (some k) := by
  dsimp only [talk]; rw [role_ofRole]
theorem payload_at : (talk A).payload (cellAt c k) 0 d = pay A c d k := by
  dsimp only [talk]; rw [role_ofRole]; rfl
theorem duties_later (g : GSem nD τ sig) : ∀ r, 1 ≤ r → (talk A).duties g r = ∅ :=
  fun r hr => by dsimp only [talk]; rw [if_neg (fun h => by omega)]

theorem expect_copy (b : Bool × Fin 60) : (talk A).expect (cellAt c (some b)) 0 = N := by
  unfold Schedule.expect Schedule.amountOf
  rw [duties_at, show payers (some (some b)) = {false} from rfl, Finset.sum_singleton, amount_at]; rfl
theorem expect_bar : (talk A).expect (cellAt c none) 0 = 2 := by
  unfold Schedule.expect Schedule.amountOf
  rw [duties_at, show payers (some none) = {false, true} from by decide, Finset.sum_pair (by decide), amount_at, amount_at]; rfl

theorem rest_copy (b : Bool × Fin 60) :
    bigSep ((talk A).duties (cellAt c (some b)) 0 \ ∅) (fun u => (talk A).payload (cellAt c (some b)) 0 u) = pay A c false (some b) := by
  rw [Finset.sdiff_empty, duties_at, show payers (some (some b)) = {false} from rfl, bigSep_singleton, payload_at]
theorem rest_bar :
    bigSep ((talk A).duties (cellAt c none) 0 \ ∅) (fun u => (talk A).payload (cellAt c none) 0 u) ⊢ handover (F := F) c := by
  rw [Finset.sdiff_empty, duties_at, show payers (some none) = {true} ∪ {false} from by decide, bigSep_union (by decide), bigSep_singleton, bigSep_singleton,
    payload_at, payload_at]
  show iprop(handover c ∗ pay A c false none) ⊢ _
  iintro ⟨H, -⟩
  iexact H

end Facts

/-! ## What is owed, and when a device may wait -/

/-- What is still owed to the right neighbour once `n` copies have started. -/
def due (c : Dev nD) (n : Nat) : CellTallies nD τ sig Unit := ∑ i ∈ Finset.Ico n 60, tallyAt (recvCell (right c) i) () N

theorem due_step (c : Dev nD) {n : Nat} (hn : n < 60) : due c n = due c (n + 1) + tallyAt (recvCell (right c) n) () N := by
  unfold due
  rw [Finset.sum_eq_sum_Ico_succ_bot hn, add_comm]
theorem due_last (c : Dev nD) : due c 60 = 0 := by
  unfold due; rw [Finset.Ico_self, Finset.sum_empty]

theorem due_pos (c : Dev nD) (n : Nat) (g : GSem nD τ sig) (u : Unit) (h : 0 < due c n g u) :
    ∃ i, n ≤ i ∧ i < 60 ∧ g = recvCell (right c) i := by
  unfold due at h
  rw [Finset.sum_apply, Finsupp.finset_sum_apply] at h
  obtain ⟨i, hi, h⟩ := Finset.exists_ne_zero_of_sum_ne_zero h.ne'
  rw [Finset.mem_Ico] at hi
  refine ⟨i, hi.1, hi.2, ?_⟩
  rw [tallyAt_apply] at h
  by_contra hg
  exact h (if_neg fun e => hg e.1)

/-- What a device owes at the launch: every copy to the right neighbour, and a unit to either neighbour's barrier. -/
def owed₀ (c : Dev nD) : CellTallies nD τ sig Unit := (due c 0 + tallyAt (barCell (right c)) () 1) + tallyAt (barCell (left c)) () 1

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

/-- The levels: the barriers below the receive cells, those in the order in which the copies start. -/
def level : Option Role → ℕ
  | some none => 1
  | some (some (true, n)) => 2 + n.val
  | _ => 0
def lv (g : GSem nD τ sig) (_ : Unit) : ℕ := level (role g.2)

theorem mayWait (c : Dev nD) (k : Role) (n : Nat) (hk : level (some k) < 2 + n) :
    (levAts L lv : sProp 𝕄) ⊢ MayWait (c : Thread nD τ) (ofRole k) () (due c n) :=
  MayOwe.of_cut (L := L) (lev := lv) (level (some k)) (fun p hp => by rw [Finset.mem_singleton.mp hp, L_tc]; exact Finset.mem_singleton_self _)
    (fun g u hg => by obtain ⟨i, -, -, rfl⟩ := due_pos c n g u hg; rw [L_tc]; exact Finset.mem_singleton_self _)
    (fun p hp => by rw [Finset.mem_singleton.mp hp]; dsimp only [lv]; rw [role_ofRole])
    (fun g u hg => by
      obtain ⟨i, hi, hi', rfl⟩ := due_pos c n g u hg
      dsimp only [lv]; rw [role_recv hi']; show _ < 2 + i; omega)

end Cert.KernelIdeal.Ring
-- ==== Proof.KernelIdeal.Steps.lean ====
/-
  Each step of the communication, once for all copies: what a device holds before it and after it.
-/
module

public import proofs.«01_k».proof.Proof.KernelIdeal.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A device's program runs safely and ends in `Q`. -/
abbrev Runs (c : Dev nD) (p : TProg F) (Q : PUnit → sProp 𝕄) : sProp 𝕄 := wp frame (wpE (defs₀ (F := F)) 𝒱₀ c none) Set.univ p Q

variable (A : Staged F) (K : GSem nD τ sig → ℕ) (c : Dev nD)

/-! ## What a device holds for one copy -/

/-- A device owes `O`, whatever it has waited for. -/
abbrev owing (O : CellTallies nD τ sig Unit) : sProp 𝕄 := iprop(∃ W, owes (c : Thread nD τ) O W)

/-- The invariants of the three cells a device touches for copy `n`. -/
def ends (n : Nat) : sProp 𝕄 :=
  iprop(cellInv ER (talk A) (K (sendCell c n)) (sendCell c n) ∗ cellInv ER (talk A) (K (recvCell c n)) (recvCell c n)
    ∗ cellInv ER (talk A) (K (recvCell (right c) n)) (recvCell (right c) n))
/-- What is known of copy `n` throughout: those, and that its cells are set up. -/
def wire (n : Nat) : sProp 𝕄 := iprop(ends A K c n ∗ reached ER (sendCell c n) 0 ∗ reached ER (recvCell (right c) n) 0)

instance ends_persistent (n : Nat) : BI.Persistent (ends A K c n) := by unfold ends; infer_instance
instance wire_persistent (n : Nat) : BI.Persistent (wire A K c n) := by unfold wire; infer_instance

/-- The right to pay both ends of copy `n`. -/
def tokens (n : Nat) : sProp 𝕄 := iprop(dutyTok ER (sendCell c n) 0 false ∗ dutyTok ER (recvCell (right c) n) 0 false)
/-- Copy `n` from the left is to come; -/
def incoming (n : Nat) : sProp 𝕄 := iprop(cred (tallyAt (recvCell c n) () N) ∗ atPos ER (recvCell c n) 0 ∅ 0)
/-- copy `n` is on its way. -/
abbrev leaving (n : Nat) : sProp 𝕄 := cred (tallyAt (sendCell c n) () N)
/-- The send semaphore has not been waited for. -/
abbrev unsent (n : Nat) : sProp 𝕄 := atPos ER (sendCell c n) 0 ∅ 0

/-! ## The steps -/

theorem wp_sendStep {n : Nat} (hn : n < 60) (k : TProg F) (Q : PUnit → sProp 𝕄) :
    iprop(wire A K c n ∗ (held A c n ∗ free (F := F) (right c) (n + 4) ∗ tokens (F := F) c n ∗ owing c (due c n))
      ∗ ((leaving c n ∗ owing c (due c (n + 1))) -∗ Runs c k Q)) ⊢ Runs c (sendStep c n k) Q := by
  unfold wire ends tokens sendStep held free pieceAs
  iintro ⟨⟨⟨#Is, #Ir, #In⟩, #Rs, #Rn⟩, ⟨Hp, ⟨%fd, Hd⟩, ⟨Ts, Tn⟩, %W, HO⟩, Hk⟩
  iapply (Rounds.wp_send_pointsTo 𝒱₀ ER (talk A) (c : Thread nD τ) none (c' := (right c : Thread nD τ)) (src := piece n) (dst := piece (n + 4))
      (sS := .dma (sendS n)) (sem := .dma (recvS n)) (q := fullShare) (fs := slots A c) (κ₁ := K (sendCell c n)) (κ₂ := K (recvCell (right c) n))
      (r₁ := 0) (r₂ := 0) (d₁ := false) (d₂ := false) (fd := fd)
      (mem_duties A c (some (false, ⟨n, hn⟩)) false (Finset.mem_singleton_self _))
      (mem_duties A (right c) (some (true, ⟨n, hn⟩)) false (Finset.mem_singleton_self _))
      () () N rfl (amount_at A c (some (false, ⟨n, hn⟩)) false) (amount_at A (right c) (some (true, ⟨n, hn⟩)) false) (due c (n + 1)) (due_step c hn) (W := W)
      (Entails.of_eq (payload_at A c (some (false, ⟨n, hn⟩)) false).symm)
      (Entails.of_eq ((pointsTo_congr (landed A c hn fd)).trans (payload_at A (right c) (some (true, ⟨n, hn⟩)) false).symm))) $$ [Hp Hd HO Ts Tn]
  · isplitr; · iexact Is
    isplitr; · iexact In
    isplitl [Hp]; · iexact Hp
    isplitl [Hd]; · iexact Hd
    isplitl [HO]; · iexact HO
    isplitl [Ts]; · iexact Ts
    isplitr; · iexact Rs
    isplitl [Tn]; · iexact Tn
    iexact Rn
  iintro ⟨HC, HO⟩
  iapply Hk
  isplitl [HC]; · iexact HC
  iexists _; iexact HO

/-- A wait for either end of a copy, at which the cell is done with: the counter comes back at zero with what was paid in. -/
theorem wp_wait_copy (b : Bool × Fin 60) (s : DmaSem sig) (hs : ofRole (some b) = .dma s) {p p' : Nat} (m : Nat)
    (hm : level (some (some b)) < 2 + m ∨ m = 60)
    (h₁ : (piece p).view.WordExact) (h₂ : (piece p').view.WordExact) (κ : ℕ) (k : TProg F) (Q : PUnit → sProp 𝕄) :
    iprop((levAts L lv ∗ cellInv ER (talk A) κ (cellAt c (some b))) ∗ (cred (tallyAt (cellAt c (some b)) () N) ∗ atPos ER (cellAt c (some b)) 0 ∅ 0 ∗ owing c (due c m))
      ∗ ((pay A c false (some b) ∗ semVal (cellAt c (some b)) 0 ∗ owing c (due c m)) -∗ Runs c k Q))
      ⊢ Runs c (.op (.waitDma2 s (piece p) (piece p') h₁ h₂) fun _ => k) Q := by
  have e : cellAt c (some b) = ((c : Thread nD τ), .dma s) := by rw [cellAt, hs]
  iintro ⟨⟨#Hl, #I⟩, ⟨HC, HP, %W, HO⟩, Hk⟩
  iapply (Rounds.wp_wait_rest_token 𝒱₀ ER (talk A) (c : Thread nD τ) none (κ := κ) (sm := ofRole (some b))
      (by rw [hs]; exact wpE_waitDma2_eq 𝒱₀ (c : Thread nD τ) none Set.univ) (Set.mem_univ _) () (O := due c m) (W := W) (R := 0) (m := 0) (T := ∅)
      ((Nat.zero_add _).trans (expect_copy A c b).symm)) $$ [HC HO HP]
  · isplitr; · iexact I
    isplitl [HC]; · iexact HC
    isplitl [HO]; · iexact HO
    isplitr
    · rcases hm with hm | rfl
      · iapply (mayWait c (some b) m hm); iexact Hl
      · rw [due_last, MayWait_zero]; iempintro
    iexact HP
  iintro ⟨HO, HP, -, Hpay⟩
  ihave Hpay := (Entails.of_eq (rest_copy A c b)) $$ Hpay
  imod (Rounds.cell_close ER (talk A) (g := cellAt c (some b)) (Set.mem_univ κ) (fun h => h) (R := 0 + 1) (duties_later A (cellAt c (some b)))) $$ [HP] with H0
  · isplitr; · iexact I
    iexact HP
  iapply Hk
  isplitl [Hpay]; · iexact Hpay
  isplitl [H0]; · iexact H0
  iexists _; iexact HO

theorem wp_recvStep {n : Nat} (hn : n < 60) {m : Nat} (hm : n < m) (k : TProg F) (Q : PUnit → sProp 𝕄) :
    iprop((levAts L lv ∗ wire A K c n) ∗ (incoming (F := F) c n ∗ owing c (due c m))
      ∗ ((held A c (n + 4) ∗ semVal (recvCell c n) 0 ∗ owing c (due c m)) -∗ Runs c k Q)) ⊢ Runs c (recvStep n k) Q := by
  unfold wire ends incoming recvStep
  iintro ⟨⟨#Hl, ⟨⟨#Is, #Ir, #In⟩, #Rs, #Rn⟩⟩, ⟨⟨HC, HP⟩, HO⟩, Hk⟩
  iapply (wp_wait_copy A c (true, ⟨n, hn⟩) (recvS n) rfl m (.inl (by show 2 + n < 2 + m; omega)) (piece_exact n) (piece_exact (n + 4)) (K (recvCell c n)) k Q)
  isplitr
  · isplitr; · iexact Hl
    iexact Ir
  isplitr [Hk]
  · isplitl [HC]; · iexact HC
    isplitl [HP]; · iexact HP
    iexact HO
  iexact Hk

theorem wp_sentStep {n : Nat} (hn : n < 60) (k : TProg F) (Q : PUnit → sProp 𝕄) :
    iprop((levAts L lv ∗ wire A K c n) ∗ (leaving (F := F) c n ∗ unsent (F := F) c n ∗ owing c (due c 60))
      ∗ ((held A c n ∗ semVal (sendCell c n) 0 ∗ owing c (due c 60)) -∗ Runs c k Q)) ⊢ Runs c (sentStep n k) Q := by
  unfold wire ends sentStep
  iintro ⟨⟨#Hl, ⟨⟨#Is, #Ir, #In⟩, #Rs, #Rn⟩⟩, H, Hk⟩
  iapply (wp_wait_copy A c (false, ⟨n, hn⟩) (sendS n) rfl 60 (.inr rfl) (piece_exact (n + 4)) (piece_exact n) (K (sendCell c n)) k Q)
  isplitr
  · isplitr; · iexact Hl
    iexact Is
  isplitl [H]; · iexact H
  iexact Hk

/-! ## A run of steps -/

/-- A run of steps keeps to an invariant that each step takes on by one. -/
theorem wp_steps (step : Nat → TProg F → TProg F) (I : Nat → sProp 𝕄) (Q : PUnit → sProp 𝕄) (k : TProg F) :
    ∀ (l a : Nat), (∀ n, a ≤ n → n < a + l → ∀ k, iprop(I n ∗ (I (n + 1) -∗ Runs c k Q)) ⊢ Runs c (step n k) Q) →
      iprop(I a ∗ (I (a + l) -∗ Runs c k Q)) ⊢ Runs c (steps step l a k) Q
  | 0, a, _ => by
    iintro ⟨HI, Hk⟩
    iapply Hk
    iexact HI
  | l + 1, a, h => by
    have ih := wp_steps step I Q k l (a + 1) fun n h₁ h₂ => h n (by omega) (by omega)
    rw [show a + 1 + l = a + (l + 1) by omega] at ih
    iintro ⟨HI, Hk⟩
    iapply (h a le_rfl (by omega) (steps step l (a + 1) k))
    isplitl [HI]; · iexact HI
    iintro HI
    iapply ih
    isplitl [HI]; · iexact HI
    iexact Hk

end Cert.KernelIdeal.Ring
-- ==== Proof.KernelIdeal.Copies.lean ====
/-
  The sixty copies around the ring: what a device holds before the first and after the last.
-/
module

public import proofs.«01_k».proof.Proof.KernelIdeal.Steps
public import Idealize.SL.BI.BigOpNat

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Staged F) (K : GSem nD τ sig → ℕ) (c : Dev nD)

/-- What is known of all sixty copies throughout, and the levels. -/
def lines : sProp 𝕄 := iprop(levAts L lv ∗ bigSep (Finset.Ico 0 60) (wire A K c))
instance lines_persistent : BI.Persistent (lines A K c) := by unfold lines; infer_instance

theorem lines_at {n : Nat} (hn : n < 60) : lines A K c ⊢ iprop(levAts L lv ∗ wire A K c n) := by
  unfold lines
  iintro ⟨Hl, Hw⟩
  isplitl [Hl]; · iexact Hl
  ihave Hn := (show bigSep (Finset.Ico 0 60) (wire A K c) ⊢ wire A K c n from BI.bigSep_elim (Finset.mem_Ico.mpr ⟨Nat.zero_le n, hn⟩)) $$ Hw
  iexact Hn

/-- A run of numbers cut in two. -/
theorem run_split {M : Type _} [URA M] {a b d : Nat} (h₁ : a ≤ b) (h₂ : b ≤ d) (P : Nat → sProp M) :
    bigSep (Finset.Ico a d) P = iprop(bigSep (Finset.Ico a b) P ∗ bigSep (Finset.Ico b d) P) :=
  (congrArg (fun s => bigSep s P) (Finset.Ico_union_Ico_eq_Ico h₁ h₂).symm).trans (BI.bigSep_union (Finset.Ico_disjoint_Ico_consecutive a b d))

/-! ## The invariants of the four runs -/

/-- The first four copies: `n` have started. -/
def sending (n : Nat) : sProp 𝕄 :=
  iprop(bigSep (Finset.Ico n 4) (held A c) ∗ bigSep (Finset.Ico (n + 4) 64) (free (F := F) (right c)) ∗ bigSep (Finset.Ico n 60) (tokens (F := F) c)
    ∗ bigSep (Finset.Ico 0 n) (leaving (F := F) c) ∗ owing c (due c n))

/-- The relays: `n` copies have arrived, `n + 4` have started. -/
def relaying (n : Nat) : sProp 𝕄 :=
  iprop(bigSep (Finset.Ico (n + 8) 64) (free (F := F) (right c)) ∗ bigSep (Finset.Ico (n + 4) 60) (tokens (F := F) c)
    ∗ bigSep (Finset.Ico 0 (n + 4)) (leaving (F := F) c) ∗ bigSep (Finset.Ico n 60) (incoming (F := F) c)
    ∗ bigSep (Finset.Ico 0 n) (fun i => semVal (recvCell c i) 0) ∗ owing c (due c (n + 4)))

/-- The last arrivals: `n` copies have arrived, all have started. -/
def receiving (n : Nat) : sProp 𝕄 :=
  iprop(bigSep (Finset.Ico n 60) (incoming (F := F) c) ∗ bigSep (Finset.Ico 0 n) (fun i => semVal (recvCell c i) 0)
    ∗ bigSep (Finset.Ico 60 (n + 4)) (held A c) ∗ owing c (due c 60))

/-- The last waits: `n` copies are known to have left. -/
def draining (n : Nat) : sProp 𝕄 :=
  iprop(bigSep (Finset.Ico n 60) (leaving (F := F) c) ∗ bigSep (Finset.Ico n 60) (unsent (F := F) c) ∗ bigSep (Finset.Ico 0 n) (held A c)
    ∗ bigSep (Finset.Ico 0 n) (fun i => semVal (sendCell c i) 0) ∗ owing c (due c 60))

/-! ## One step of each -/

theorem sending_step {n : Nat} (hn : n < 4) (k : TProg F) (Q : PUnit → sProp 𝕄) :
    iprop((lines A K c ∗ sending A c n) ∗ ((lines A K c ∗ sending A c (n + 1)) -∗ Runs c k Q)) ⊢ Runs c (sendStep c n k) Q := by
  unfold sending
  rw [bigSep_Ico_succ_bot hn, bigSep_Ico_succ_bot (show n + 4 < 64 by omega), bigSep_Ico_succ_bot (show n < 60 by omega),
    bigSep_Ico_succ_top (Nat.zero_le n), show n + 1 + 4 = n + 4 + 1 by omega]
  iintro ⟨⟨#Hc, ⟨Hp, HP⟩, ⟨Hd, HD⟩, ⟨Ht, HT⟩, HL, HO⟩, Hk⟩
  ihave #Hw := (lines_at A K c (show n < 60 by omega)) $$ Hc
  icases Hw with ⟨-, #Hw⟩
  iapply (wp_sendStep A K c (show n < 60 by omega) k Q)
  isplitr; · iexact Hw
  isplitl [Hp Hd Ht HO]
  · isplitl [Hp]; · iexact Hp
    isplitl [Hd]; · iexact Hd
    isplitl [Ht]; · iexact Ht
    iexact HO
  iintro ⟨Hl, HO⟩
  iapply Hk
  isplitr; · iexact Hc
  isplitl [HP]; · iexact HP
  isplitl [HD]; · iexact HD
  isplitl [HT]; · iexact HT
  isplitl [Hl HL]
  · isplitl [Hl]; · iexact Hl
    iexact HL
  iexact HO

theorem relaying_step {n : Nat} (hn : n < 56) (k : TProg F) (Q : PUnit → sProp 𝕄) :
    iprop((lines A K c ∗ relaying c n) ∗ ((lines A K c ∗ relaying c (n + 1)) -∗ Runs c k Q)) ⊢ Runs c (relayStep c n k) Q := by
  unfold relaying relayStep
  rw [show n + 1 + 8 = n + 8 + 1 by omega, show n + 1 + 4 = n + 4 + 1 by omega, bigSep_Ico_succ_bot (show n + 8 < 64 by omega),
    bigSep_Ico_succ_bot (show n + 4 < 60 by omega), bigSep_Ico_succ_bot (show n < 60 by omega), bigSep_Ico_succ_top (Nat.zero_le n),
    bigSep_Ico_succ_top (Nat.zero_le (n + 4))]
  iintro ⟨⟨#Hc, ⟨Hd, HD⟩, ⟨Ht, HT⟩, HL, ⟨Hi, HI⟩, HR, HO⟩, Hk⟩
  ihave #Hw := (lines_at A K c (show n < 60 by omega)) $$ Hc
  ihave #Hv := (lines_at A K c (show n + 4 < 60 by omega)) $$ Hc
  icases Hv with ⟨-, #Hv⟩
  iapply (wp_recvStep A K c (show n < 60 by omega) (show n < n + 4 by omega) (sendStep c (n + 4) k) Q)
  isplitr; · iexact Hw
  isplitl [Hi HO]
  · isplitl [Hi]; · iexact Hi
    iexact HO
  iintro ⟨Hp, Hr, HO⟩
  iapply (wp_sendStep A K c (show n + 4 < 60 by omega) k Q)
  isplitr; · iexact Hv
  isplitl [Hp Hd Ht HO]
  · isplitl [Hp]; · iexact Hp
    isplitl [Hd]; · iexact Hd
    isplitl [Ht]; · iexact Ht
    iexact HO
  iintro ⟨Hl, HO⟩
  iapply Hk
  isplitr; · iexact Hc
  isplitl [HD]; · iexact HD
  isplitl [HT]; · iexact HT
  isplitl [Hl HL]
  · isplitl [Hl]; · iexact Hl
    iexact HL
  isplitl [HI]; · iexact HI
  isplitl [Hr HR]
  · isplitl [Hr]; · iexact Hr
    iexact HR
  iexact HO

theorem receiving_step {n : Nat} (h₁ : 56 ≤ n) (h₂ : n < 60) (k : TProg F) (Q : PUnit → sProp 𝕄) :
    iprop((lines A K c ∗ receiving A c n) ∗ ((lines A K c ∗ receiving A c (n + 1)) -∗ Runs c k Q)) ⊢ Runs c (recvStep n k) Q := by
  unfold receiving
  rw [show n + 1 + 4 = n + 4 + 1 by omega, bigSep_Ico_succ_bot h₂, bigSep_Ico_succ_top (Nat.zero_le n), bigSep_Ico_succ_top (show 60 ≤ n + 4 by omega)]
  iintro ⟨⟨#Hc, ⟨Hi, HI⟩, HR, HP, HO⟩, Hk⟩
  ihave #Hw := (lines_at A K c h₂) $$ Hc
  iapply (wp_recvStep A K c h₂ h₂ k Q)
  isplitr; · iexact Hw
  isplitl [Hi HO]
  · isplitl [Hi]; · iexact Hi
    iexact HO
  iintro ⟨Hp, Hr, HO⟩
  iapply Hk
  isplitr; · iexact Hc
  isplitl [HI]; · iexact HI
  isplitl [Hr HR]
  · isplitl [Hr]; · iexact Hr
    iexact HR
  isplitl [Hp HP]
  · isplitl [Hp]; · iexact Hp
    iexact HP
  iexact HO

theorem draining_step {n : Nat} (hn : n < 60) (k : TProg F) (Q : PUnit → sProp 𝕄) :
    iprop((lines A K c ∗ draining A c n) ∗ ((lines A K c ∗ draining A c (n + 1)) -∗ Runs c k Q)) ⊢ Runs c (sentStep n k) Q := by
  unfold draining
  rw [bigSep_Ico_succ_bot hn, bigSep_Ico_succ_bot hn, bigSep_Ico_succ_top (Nat.zero_le n), bigSep_Ico_succ_top (Nat.zero_le n)]
  iintro ⟨⟨#Hc, ⟨Hl, HL⟩, ⟨Hu, HU⟩, HP, HS, HO⟩, Hk⟩
  ihave #Hw := (lines_at A K c hn) $$ Hc
  iapply (wp_sentStep A K c hn k Q)
  isplitr; · iexact Hw
  isplitl [Hl Hu HO]
  · isplitl [Hl]; · iexact Hl
    isplitl [Hu]; · iexact Hu
    iexact HO
  iintro ⟨Hp, Hs, HO⟩
  iapply Hk
  isplitr; · iexact Hc
  isplitl [HL]; · iexact HL
  isplitl [HU]; · iexact HU
  isplitl [Hp HP]
  · isplitl [Hp]; · iexact Hp
    iexact HP
  isplitl [Hs HS]
  · isplitl [Hs]; · iexact Hs
    iexact HS
  iexact HO

/-! ## All sixty copies -/

/-- Before the copies: the own block is in slot 0, and the right neighbour's slots past its first are in hand. -/
def ringPre : sProp 𝕄 :=
  iprop(bigSep (Finset.Ico 0 4) (held A c) ∗ bigSep (Finset.Ico 4 64) (free (F := F) (right c)) ∗ bigSep (Finset.Ico 0 60) (tokens (F := F) c)
    ∗ bigSep (Finset.Ico 0 60) (incoming (F := F) c) ∗ bigSep (Finset.Ico 0 60) (unsent (F := F) c) ∗ owing c (due c 0))

/-- After them: every slot is filled, every counter is back at zero, nothing is owed. -/
def ringPost : sProp 𝕄 :=
  iprop(bigSep (Finset.Ico 0 64) (held A c) ∗ bigSep (Finset.Ico 0 60) (fun i => semVal (sendCell c i) 0)
    ∗ bigSep (Finset.Ico 0 60) (fun i => semVal (recvCell c i) 0) ∗ owing c 0)

theorem wp_ring (k : TProg F) (Q : PUnit → sProp 𝕄) :
    iprop(lines A K c ∗ ringPre A c ∗ (ringPost A c -∗ Runs c k Q))
      ⊢ Runs c (steps (sendStep c) 4 0 <| steps (relayStep c) 56 0 <| steps recvStep 4 56 <| steps sentStep 60 0 k) Q := by
  unfold ringPre ringPost
  iintro ⟨#Hc, ⟨HP, HD, HT, HI, HU, HO⟩, Hk⟩
  iapply (wp_steps c (sendStep c) (fun n => iprop(lines A K c ∗ sending A c n)) Q _ 4 0 fun n _ h k => sending_step A K c (by omega) k Q)
  unfold sending
  isplitl [HP HD HT HO]
  · isplitr; · iexact Hc
    isplitl [HP]; · iexact HP
    isplitl [HD]; · iexact HD
    isplitl [HT]; · iexact HT
    isplitr; · rw [Finset.Ico_self, bigSep_empty]; iempintro
    iexact HO
  iintro ⟨-, -, HD, HT, HL, HO⟩
  iapply (wp_steps c (relayStep c) (fun n => iprop(lines A K c ∗ relaying c n)) Q _ 56 0 fun n _ h k => relaying_step A K c (by omega) k Q)
  unfold relaying
  isplitl [HD HT HL HI HO]
  · isplitr; · iexact Hc
    isplitl [HD]; · iexact HD
    isplitl [HT]; · iexact HT
    isplitl [HL]; · iexact HL
    isplitl [HI]; · iexact HI
    isplitr; · rw [Finset.Ico_self, bigSep_empty]; iempintro
    iexact HO
  iintro ⟨-, -, -, HL, HI, HR, HO⟩
  iapply (wp_steps c recvStep (fun n => iprop(lines A K c ∗ receiving A c n)) Q _ 4 56 fun n h₁ h₂ k => receiving_step A K c h₁ (by omega) k Q)
  unfold receiving
  isplitl [HI HR HO]
  · isplitr; · iexact Hc
    isplitl [HI]; · iexact HI
    isplitl [HR]; · iexact HR
    isplitr; · rw [Finset.Ico_self, bigSep_empty]; iempintro
    iexact HO
  iintro ⟨-, -, HR, HP, HO⟩
  iapply (wp_steps c sentStep (fun n => iprop(lines A K c ∗ draining A c n)) Q _ 60 0 fun n _ h k => draining_step A K c (by omega) k Q)
  unfold draining
  isplitl [HL HU HO]
  · isplitr; · iexact Hc
    isplitl [HL]; · iexact HL
    isplitl [HU]; · iexact HU
    isplitr; · rw [Finset.Ico_self, bigSep_empty]; iempintro
    isplitr; · rw [Finset.Ico_self, bigSep_empty]; iempintro
    iexact HO
  iintro ⟨-, -, -, HP', HS, HO⟩
  iapply Hk
  isplitl [HP HP']
  · rw [run_split (a := 0) (b := 60) (d := 64) (by decide) (by decide)]
    isplitl [HP']; · iexact HP'
    iexact HP
  isplitl [HS]; · iexact HS
  isplitl [HR]; · iexact HR
  rw [due_last]
  iexact HO

end Cert.KernelIdeal.Ring
-- ==== Proof.KernelIdeal.Local.lean ====
/-
  The steps a device takes alone: its own block into slot 0, the queries, the sixteen attention tiles, the projection. What each
  leaves in its buffer.
-/
module

public import proofs.«01_k».proof.Proof.KernelIdeal.Copies

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Staged F) (c : Dev nD)

/-! ## Tiles of the attention's result -/

/-- The tile a position lies in, and where. -/
def tileAtIdx (i : S2x128x256.Idx) : Nat := 8 * (i 0).val + 2 * ((i 2).val / 64) + (i 1).val / 64
def inTile (i : S2x128x256.Idx) : S1x64x64.Idx
  | 0 => ⟨0, by decide⟩
  | 1 => ⟨(i 1).val % 64, Nat.mod_lt _ (by decide)⟩
  | 2 => ⟨(i 2).val % 64, Nat.mod_lt _ (by decide)⟩

theorem tileAtIdx_lt (i : S2x128x256.Idx) : tileAtIdx i < 16 := by
  have h0 : (i 0).val < 2 := (i 0).isLt
  have h1 : (i 1).val < 128 := (i 1).isLt
  have h2 : (i 2).val < 256 := (i 2).isLt
  unfold tileAtIdx; omega

/-- What tile `g` computes: attention of its queries to the keys and values of all sixteen slots. -/
def tileOut (g : Fin 16) : Vec F S1x64x64 .f32 :=
  k0_pay10 (qM.view.readAt (Elt F) (tileRect g).toLoadRect (queries A c)) (kvM.view.readAt (Elt F) (tilesRect 0 g).toLoadRect (slots A c))
    (kvM.view.readAt (Elt F) (tilesRect 1 g).toLoadRect (slots A c))

/-- The attention's result, tile by tile. -/
def attended : (cc0_scratch2 : Ref sig .tc).ty.Contents (Elt F) :=
  fun i : S2x128x256.Idx => tileOut A c (tileOf (tileAtIdx i)) (inTile i)

/-- The kernel's result. -/
def projected : (cc0_stg5_0 : Ref sig .tc).ty.Contents (Elt F) := k0_pay2 (attended A c) (A.wo c)

theorem tile_apply (g : Fin 16) (f : (cc0_scratch2 : Ref sig .tc).ty.Contents (Elt F)) (w : Vec F S1x64x64 .f32) (i : S2x128x256.Idx) :
    (ctxM.access (tileRect g)).write (Elt F) f w Finset.univ i = if tileAtIdx i = g.val then w (inTile i) else f i := by
  have h0 : (i 0).val < 2 := (i 0).isLt
  have h1 : (i 1).val < 128 := (i 1).isLt
  have h2 : (i 2).val < 256 := (i 2).isLt
  have hg := g.isLt
  split
  · rename_i h
    unfold tileAtIdx at h
    have e : i = (ctxM.access (tileRect g)).emb (inTile i) := by
      funext a
      refine Fin.ext (Eq.symm ((Rect.emb_apply (r := tileRect g) (inTile i) a).trans ?_))
      fin_cases a
      · show g.val / 8 + 1 * 0 = (i 0).val; omega
      · show 64 * (g.val % 2) + 1 * ((i 1).val % 64) = (i 1).val; omega
      · show 64 * (g.val / 2 % 4) + 1 * ((i 2).val % 64) = (i 2).val; omega
    conv_lhs => rw [e]
    rw [View.write_emb_of_mem _ _ (Finset.mem_univ (inTile i))]
    rfl
  · rename_i h
    refine View.write_of_not_mem _ _ _ fun hi => h ?_
    obtain ⟨x, -, e'⟩ := Finset.mem_map.mp hi
    have e : ∀ a : Fin 3, (i a).val = _ := fun a => (congrArg (fun j : S2x128x256.Idx => (j a).val) e').symm.trans (Rect.emb_apply (r := tileRect g) x a)
    have x0 : (x 0).val = 0 := Nat.lt_one_iff.mp (x 0).isLt
    have x1 : (x 1).val < 64 := (x 1).isLt
    have x2 : (x 2).val < 64 := (x 2).isLt
    have e0 : (i 0).val = g.val / 8 + 1 * (x 0).val := e 0
    have e1 : (i 1).val = 64 * (g.val % 2) + 1 * (x 1).val := e 1
    have e2 : (i 2).val = 64 * (g.val / 2 % 4) + 1 * (x 2).val := e 2
    unfold tileAtIdx; omega

/-! ## The program's steps over whole buffers -/

/-- A buffer of a device, held whole. -/
abbrev whole (b : Ref sig .tc) (f : b.ty.Contents (Elt F)) : sProp 𝕄 := ((c : Thread nD τ).loc b) ↦{fullShare} f

/-- After `n` tiles: the result agrees on those. -/
def tiling (n : Nat) : sProp 𝕄 :=
  iprop(whole c cc0_scratch0 (slots A c) ∗ whole c cc0_scratch1 (queries A c)
    ∗ ∃ f : (cc0_scratch2 : Ref sig .tc).ty.Contents (Elt F), ⌜∀ i : S2x128x256.Idx, tileAtIdx i < n → f i = attended A c i⌝ ∗ whole c cc0_scratch2 f)

theorem tiling_step {n : Nat} (hn : n < 16) (k : TProg F) (Q : PUnit → sProp 𝕄) :
    iprop(tiling A c n ∗ (tiling A c (n + 1) -∗ Runs c k Q)) ⊢ Runs c (tileStep n k) Q := by
  unfold tiling tileStep tileAt
  iintro ⟨⟨HK, HQ, %f, %hf, HX⟩, Hk⟩
  iapply (wp_load 𝒱₀ (c : Thread nD τ) none Set.univ (m := qM) (Finset.subset_univ _)) $$ HQ; iintro HQ
  iapply (wp_load 𝒱₀ (c : Thread nD τ) none Set.univ (m := kvM) (Finset.subset_univ _)) $$ HK; iintro HK
  iapply (wp_load 𝒱₀ (c : Thread nD τ) none Set.univ (m := kvM) (Finset.subset_univ _)) $$ HK; iintro HK
  iapply (wp_load 𝒱₀ (c : Thread nD τ) none Set.univ (m := ctxM) (Finset.subset_univ _)) $$ HX; iintro HX
  iapply (wp_store 𝒱₀ (c : Thread nD τ) none Set.univ (m := ctxM) (r := tileRect (tileOf n)) (Mk := Finset.univ) (Finset.subset_univ _)) $$ HX; iintro HX
  iapply Hk
  isplitl [HK]; · iexact HK
  isplitl [HQ]; · iexact HQ
  iexists _
  isplitr
  rotate_left
  · iexact HX
  · ipureintro
    intro i hi
    refine (tile_apply (tileOf n) f (tileOut A c (tileOf n)) i).trans ?_
    have ht : (tileOf n).val = n := Nat.mod_eq_of_lt hn
    rw [ht]
    split
    · rename_i h; unfold attended; rw [h]
    · rename_i h; exact hf i (by omega)

/-- The sixteen tiles. -/
theorem wp_tiles (k : TProg F) (Q : PUnit → sProp 𝕄) :
    iprop((whole c cc0_scratch0 (slots A c) ∗ whole c cc0_scratch1 (queries A c) ∗ ∃ f, whole c cc0_scratch2 f)
      ∗ ((whole c cc0_scratch0 (slots A c) ∗ whole c cc0_scratch1 (queries A c) ∗ whole c cc0_scratch2 (attended A c)) -∗ Runs c k Q))
      ⊢ Runs c (steps tileStep 16 0 k) Q := by
  iintro ⟨⟨HK, HQ, %f, HX⟩, Hk⟩
  iapply (wp_steps c tileStep (tiling A c) Q k 16 0 fun n _ h k => tiling_step A c (by omega) k Q)
  unfold tiling
  isplitl [HK HQ HX]
  · isplitl [HK]; · iexact HK
    isplitl [HQ]; · iexact HQ
    iexists f
    isplitr; · ipureintro; exact fun i h => absurd h (Nat.not_lt_zero _)
    iexact HX
  iintro ⟨HK, HQ, %f, %hf, HX⟩
  iapply Hk
  isplitl [HK]; · iexact HK
  isplitl [HQ]; · iexact HQ
  rw [show f = attended A c from funext fun i => hf i (tileAtIdx_lt i)]
  iexact HX

theorem zeros2 : (![0, 0] : Fin 2 → Nat) = fun _ => 0 := by decide
theorem zeros3 : (![0, 0, 0] : Fin 3 → Nat) = fun _ => 0 := by decide

theorem read_x (f : (cc0_stg0_0 : Ref sig .tc).ty.Contents (Elt F)) : xM.view.readAt (Elt F) actRect.toLoadRect f = f :=
  Memref.readAt_unit_zero (Elt F) cc0_stg0_0 zeros3 _ f
theorem read_wq (f : (cc0_stg1_0 : Ref sig .tc).ty.Contents (Elt F)) : wqM.view.readAt (Elt F) wqRect.toLoadRect f = f :=
  Memref.readAt_unit_zero (Elt F) cc0_stg1_0 zeros2 _ f
theorem read_key (f : (cc0_stg2_0 : Ref sig .tc).ty.Contents (Elt F)) : keyM.view.readAt (Elt F) headRect.toLoadRect f = f :=
  Memref.readAt_unit_zero (Elt F) cc0_stg2_0 zeros3 _ f
theorem read_val (f : (cc0_stg3_0 : Ref sig .tc).ty.Contents (Elt F)) : valM.view.readAt (Elt F) headRect.toLoadRect f = f :=
  Memref.readAt_unit_zero (Elt F) cc0_stg3_0 zeros3 _ f
theorem read_wo (f : (cc0_stg4_0 : Ref sig .tc).ty.Contents (Elt F)) : woM.view.readAt (Elt F) woRect.toLoadRect f = f :=
  Memref.readAt_unit_zero (Elt F) cc0_stg4_0 zeros2 _ f
theorem read_ctx (f : (cc0_scratch2 : Ref sig .tc).ty.Contents (Elt F)) : ctxM.view.readAt (Elt F) headRect.toLoadRect f = f :=
  Memref.readAt_unit_zero (Elt F) cc0_scratch2 zeros3 _ f
theorem write_q (f w : (cc0_scratch1 : Ref sig .tc).ty.Contents (Elt F)) : (qM.access headRect).write (Elt F) f w Finset.univ = w :=
  Memref.write_access_unit_zero_univ (Elt F) cc0_scratch1 zeros3 _ f w
theorem write_out (f w : (cc0_stg5_0 : Ref sig .tc).ty.Contents (Elt F)) : (outM.access actRect).write (Elt F) f w Finset.univ = w :=
  Memref.write_access_unit_zero_univ (Elt F) cc0_stg5_0 zeros3 _ f w

/-- The projection. -/
theorem wp_outStep (Q : PUnit → sProp 𝕄) :
    iprop((whole c cc0_scratch2 (attended A c) ∗ whole c cc0_stg4_0 (A.wo c) ∗ ∃ f, whole c cc0_stg5_0 f)
      ∗ ((whole c cc0_scratch2 (attended A c) ∗ whole c cc0_stg4_0 (A.wo c) ∗ whole c cc0_stg5_0 (projected A c)) -∗ Q ⟨⟩))
      ⊢ Runs c (outStep (F := F)) Q := by
  unfold outStep
  iintro ⟨⟨HX, HW, %f, HO⟩, Hk⟩
  iapply (wp_load 𝒱₀ (c : Thread nD τ) none Set.univ (m := ctxM) (Finset.subset_univ _)) $$ HX; iintro HX
  iapply (wp_load 𝒱₀ (c : Thread nD τ) none Set.univ (m := woM) (Finset.subset_univ _)) $$ HW; iintro HW
  iapply (wp_load 𝒱₀ (c : Thread nD τ) none Set.univ (m := outM) (Finset.subset_univ _)) $$ HO; iintro HO
  iapply (wp_store 𝒱₀ (c : Thread nD τ) none Set.univ (m := outM) (r := actRect) (Mk := Finset.univ) (Finset.subset_univ _)) $$ HO; iintro HO
  rw [write_out, read_ctx, read_wo, wp_ret]
  imodintro
  iapply Hk
  isplitl [HX]; · iexact HX
  isplitl [HW]; · iexact HW
  iexact HO

/-- The queries. -/
theorem wp_queryStep (k : TProg F) (Q : PUnit → sProp 𝕄) :
    iprop((whole c cc0_stg0_0 (A.x c) ∗ whole c cc0_stg1_0 (A.wq c) ∗ ∃ f, whole c cc0_scratch1 f)
      ∗ ((whole c cc0_stg0_0 (A.x c) ∗ whole c cc0_stg1_0 (A.wq c) ∗ whole c cc0_scratch1 (queries A c)) -∗ Runs c k Q))
      ⊢ Runs c (queryStep k) Q := by
  unfold queryStep
  iintro ⟨⟨HX, HW, %f, HO⟩, Hk⟩
  iapply (wp_load 𝒱₀ (c : Thread nD τ) none Set.univ (m := xM) (Finset.subset_univ _)) $$ HX; iintro HX
  iapply (wp_load 𝒱₀ (c : Thread nD τ) none Set.univ (m := wqM) (Finset.subset_univ _)) $$ HW; iintro HW
  iapply (wp_load 𝒱₀ (c : Thread nD τ) none Set.univ (m := qM) (Finset.subset_univ _)) $$ HO; iintro HO
  iapply (wp_store 𝒱₀ (c : Thread nD τ) none Set.univ (m := qM) (r := headRect) (Mk := Finset.univ) (Finset.subset_univ _)) $$ HO; iintro HO
  rw [write_q, read_x, read_wq]
  iapply Hk
  isplitl [HX]; · iexact HX
  isplitl [HW]; · iexact HW
  iexact HO

/-- Some of a device's slots' elements, and the pieces that make them up. -/
abbrev part (I : Finset S16x2x2x128x256.Idx) (f : (cc0_scratch0 : Ref sig .tc).ty.Contents (Elt F)) : sProp 𝕄 :=
  pointsTo (ℓ := (c : Thread nD τ).loc cc0_scratch0) I fullShare f

theorem pieceAs_eq (p : Nat) (f : (cc0_scratch0 : Ref sig .tc).ty.Contents (Elt F)) : pieceAs c p f = part c (piece p).view.set f := rfl

theorem parts_eq {n : Nat} (hn : n ≤ 64) (f : (cc0_scratch0 : Ref sig .tc).ty.Contents (Elt F)) :
    bigSep (Finset.Ico 0 n) (fun p => pieceAs c p f) = part c (upTo n) f := by
  rw [← pieces_cover hn]
  have h := pointsTo_biUnion (ℓ := (c : Thread nD τ).loc cc0_scratch0) (q := fullShare) (f := f) (Name := ℕ) (U := UU) (Lvl := ℕ) (Ix := Unit)
    (Finset.Ico 0 n) (fun p => (piece p).view.set) (pieces_disjoint hn)
  exact h.symm

/-- The first four pieces of a device's slots together: slot 0. -/
theorem slot0_eq (f : (cc0_scratch0 : Ref sig .tc).ty.Contents (Elt F)) : bigSep (Finset.Ico 0 4) (fun p => pieceAs c p f) = part c (upTo 4) f :=
  parts_eq c (by decide) f

/-- All sixty-four: the whole buffer. -/
theorem slots_eq (f : (cc0_scratch0 : Ref sig .tc).ty.Contents (Elt F)) : bigSep (Finset.Ico 0 64) (fun p => pieceAs c p f) = whole c cc0_scratch0 f :=
  (parts_eq c le_rfl f).trans (by rw [upTo_all])

theorem own_sub (kv : Fin 2) : (kvM.access (ownRect kv)).set ⊆ upTo 4 := by
  intro i hi
  obtain ⟨x, -, rfl⟩ := Finset.mem_map.mp hi
  refine (mem_upTo_four _).mpr ((Rect.emb_apply (r := ownRect kv) x 0).trans ?_)
  have x0 : (x 0).val = 0 := Nat.lt_one_iff.mp (x 0).isLt
  show 0 + 1 * (x 0).val = 0; omega

/-- One staged block put in slot 0. -/
theorem wp_fillStep (kv : Fin 2) (src : Memref sig .tc .vmem S2x128x256 .f32) (g : Buf (Elt F) (src.view.loc (c : Thread nD τ)))
    (x : Vec F S2x128x256 .f32) (hx : src.view.readAt (Elt F) headRect.toLoadRect g = x)
    (f : (cc0_scratch0 : Ref sig .tc).ty.Contents (Elt F)) (k : TProg F) (Q : PUnit → sProp 𝕄) :
    iprop(((src.view.loc (c : Thread nD τ) ↦{fullShare} g) ∗ part c (upTo 4) f)
      ∗ (((src.view.loc (c : Thread nD τ) ↦{fullShare} g)
          ∗ part c (upTo 4) ((kvM.access (ownRect kv)).write (Elt F) f (k0_pay3 x) Finset.univ)) -∗ Runs c k Q))
      ⊢ Runs c (fillStep kv src k) Q := by
  unfold fillStep
  iintro ⟨⟨HS, HK⟩, Hk⟩
  iapply (wp_load 𝒱₀ (c : Thread nD τ) none Set.univ (m := src) (Finset.subset_univ _)) $$ HS; iintro HS
  iapply (wp_load 𝒱₀ (c : Thread nD τ) none Set.univ (m := kvM) ((View.set_slice (v := kvM.view) (ownRect kv)).symm.subset.trans (own_sub kv))) $$ HK; iintro HK
  iapply (wp_store 𝒱₀ (c : Thread nD τ) none Set.univ (m := kvM) (r := ownRect kv) (Mk := Finset.univ) (own_sub kv)) $$ HK; iintro HK
  rw [hx]
  iapply Hk
  isplitl [HS]; · iexact HS
  iexact HK

/-- Both: slot 0 as the slots are to hold it. -/
theorem wp_fills (f : (cc0_scratch0 : Ref sig .tc).ty.Contents (Elt F)) (k : TProg F) (Q : PUnit → sProp 𝕄) :
    iprop((whole c cc0_stg2_0 (A.key c) ∗ whole c cc0_stg3_0 (A.val c) ∗ bigSep (Finset.Ico 0 4) (fun p => pieceAs c p f))
      ∗ ((whole c cc0_stg2_0 (A.key c) ∗ whole c cc0_stg3_0 (A.val c) ∗ bigSep (Finset.Ico 0 4) (held A c)) -∗ Runs c k Q))
      ⊢ Runs c (fillStep 0 keyM <| fillStep 1 valM k) Q := by
  rw [slot0_eq, show bigSep (Finset.Ico 0 4) (held A c) = _ from slot0_eq c (slots A c)]
  iintro ⟨⟨HK, HV, HS⟩, Hk⟩
  iapply (wp_fillStep c 0 keyM (A.key c) (A.key c) (read_key _) f)
  isplitl [HK HS]
  · isplitl [HK]; · iexact HK
    iexact HS
  iintro ⟨HK, HS⟩
  iapply (wp_fillStep c 1 valM (A.val c) (A.val c) (read_val _) _)
  isplitl [HV HS]
  · isplitl [HV]; · iexact HV
    iexact HS
  iintro ⟨HV, HS⟩
  iapply Hk
  isplitl [HK]; · iexact HK
  isplitl [HV]; · iexact HV
  iapply (Entails.of_eq (pointsTo_congr (filled A c f)))
  iexact HS

end Cert.KernelIdeal.Ring
-- ==== Proof.KernelIdeal.Body.lean ====
/-
  One device runs the kernel body from start to end: the handshake, then the steps in order. It starts with the right to be paid
  and to pay, its buffers and the staged operands, and ends with its result in place and every semaphore counter at zero.
-/
module

public import proofs.«01_k».proof.Proof.KernelIdeal.Local

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Staged F) (K : GSem nD τ sig → ℕ) (c : Dev nD)

/-! ## What a device brings from the launch -/

/-- The invariants of the cells it touches. -/
def invs : sProp 𝕄 :=
  iprop(cellInv ER (talk A) (K (barCell c)) (barCell c) ∗ cellInv ER (talk A) (K (barCell (left c))) (barCell (left c))
    ∗ cellInv ER (talk A) (K (barCell (right c))) (barCell (right c)) ∗ bigSep (Finset.Ico 0 60) (ends A K c))
instance invs_persistent : BI.Persistent (invs A K c) := by unfold invs; infer_instance

/-- The handshake's part: where it stands at its own barrier, and the rights to pay the neighbours'. -/
def greeting : sProp 𝕄 :=
  iprop(reached ER (barCell (left c)) 0 ∗ reached ER (barCell (right c)) 0 ∗ atPos ER (barCell c) 0 ∅ 0
    ∗ dutyTok ER (barCell (left c)) 0 true ∗ dutyTok ER (barCell (right c)) 0 false)

/-- What it is to be paid. -/
def credits : sProp 𝕄 := iprop(cred (tallyAt (barCell c) () 2) ∗ bigSep (Finset.Ico 0 60) fun n => cred (tallyAt (recvCell c n) () N))

/-- Its own send and receive cells, set up. -/
def ready : sProp 𝕄 :=
  iprop((bigSep (Finset.Ico 0 60) (fun n => atPos ER (sendCell c n) 0 ∅ 0) ∗ bigSep (Finset.Ico 0 60) fun n => atPos ER (recvCell c n) 0 ∅ 0)
    ∗ (bigSep (Finset.Ico 0 60) (fun n => reached ER (sendCell c n) 0) ∗ bigSep (Finset.Ico 0 60) fun n => reached ER (recvCell c n) 0))

/-! ## The handshake -/

theorem free_of (p : Nat) (f : (cc0_scratch0 : Ref sig .tc).ty.Contents (Elt F)) : pieceAs c p f ⊢ free (F := F) c p := by
  iintro H
  iexists f
  iexact H

theorem wp_handshake (f : (cc0_scratch0 : Ref sig .tc).ty.Contents (Elt F)) (k : TProg F) (Q : PUnit → sProp 𝕄) :
    iprop((levAts L lv ∗ invs A K c ∗ bigSep (Finset.Ico 0 60) fun n => reached ER (recvCell c n) 0)
      ∗ (greeting (F := F) c ∗ cred (tallyAt (barCell c) () 2) ∗ bigSep (Finset.Ico 4 64) (fun p => pieceAs c p f) ∗ owing c (owed₀ c))
      ∗ ((handover (F := F) c ∗ semVal (barCell c) 0 ∗ owing c (due c 0)) -∗ Runs c k Q))
      ⊢ Runs c (handshake c k) Q := by
  unfold invs greeting handshake owed₀
  iintro ⟨⟨#Hl, ⟨#Ib, #Il, #Ir, -⟩, #Rv⟩, ⟨⟨#Rl, #Rr, HP, Tl, Tr⟩, HC, HS, %W, HO⟩, Hk⟩
  iapply (Rounds.wp_signal 𝒱₀ ER (talk A) (c : Thread nD τ) none (dst := (left c : Thread nD τ)) (sem := barS) (r := 0) (d := true) (κ := K (barCell (left c)))
      (mem_duties A (left c) none true (Finset.mem_univ _)) ((amount_at A (left c) none true).trans (by decide)) ()
      (due c 0 + tallyAt (barCell (right c)) () 1) rfl) $$ [HO Tl HS]
  · isplitr; · iexact Il
    isplitl [HO]; · iexact HO
    isplitl [Tl]; · iexact Tl
    isplitl [HS]
    · rw [show (talk A).payload (barCell (left c)) 0 true = handover (left c) from payload_at A (left c) none true]
      unfold handover
      rw [right_left]
      isplitl [HS]
      · iapply (show bigSep (Finset.Ico 4 64) (fun p => pieceAs c p f) ⊢ bigSep (Finset.Ico 4 64) (fun p => free (F := F) c p) from
          BI.bigSep_mono fun p _ => free_of c p f)
        iexact HS
      iexact Rv
    iexact Rl
  iintro HO
  iapply (Rounds.wp_signal 𝒱₀ ER (talk A) (c : Thread nD τ) none (dst := (right c : Thread nD τ)) (sem := barS) (r := 0) (d := false) (κ := K (barCell (right c)))
      (mem_duties A (right c) none false (Finset.mem_univ _)) ((amount_at A (right c) none false).trans (by decide)) () (due c 0) rfl) $$ [HO Tr]
  · isplitr; · iexact Ir
    isplitl [HO]; · iexact HO
    isplitl [Tr]; · iexact Tr
    isplitr
    · rw [show (talk A).payload (barCell (right c)) 0 false = iprop(emp) from payload_at A (right c) none false]
      iempintro
    iexact Rr
  iintro HO
  iapply (Rounds.wp_wait_rest_token 𝒱₀ ER (talk A) (c : Thread nD τ) none (κ := K (barCell c))
      (wpE_semWait_eq 𝒱₀ (c : Thread nD τ) none Set.univ) (Set.mem_univ _) () (O := due c 0) (W := W) (R := 0) (m := 0) (T := ∅)
      (by rw [show (talk A).expect (barCell c) 0 = 2 from expect_bar A c]; decide)) $$ [HC HO HP]
  · isplitr; · iexact Ib
    isplitl [HC]; · iexact HC
    isplitl [HO]; · iexact HO
    isplitr; · iapply (mayWait c none 0 (by decide)); iexact Hl
    iexact HP
  iintro ⟨HO, HP, -, Hpay⟩
  ihave Hpay := (show bigSep ((talk A).duties (barCell c) 0 \ ∅) (fun u => (talk A).payload (barCell c) 0 u) ⊢ handover (F := F) c from rest_bar A c) $$ Hpay
  imod (Rounds.cell_close ER (talk A) (g := barCell c) (Set.mem_univ (K (barCell c))) (fun h => h) (R := 0 + 1) (duties_later A (barCell c))) $$ [HP] with H0
  · isplitr; · iexact Ib
    iexact HP
  iapply Hk
  isplitl [Hpay]; · iexact Hpay
  isplitl [H0]; · iexact H0
  iexists _; iexact HO

/-! ## The body -/

/-- The staged operands. -/
def operands : sProp 𝕄 :=
  iprop(whole c cc0_stg0_0 (A.x c) ∗ whole c cc0_stg1_0 (A.wq c) ∗ whole c cc0_stg2_0 (A.key c) ∗ whole c cc0_stg3_0 (A.val c) ∗ whole c cc0_stg4_0 (A.wo c))

/-- The kernel's own buffers, at anything. -/
def buffers : sProp 𝕄 :=
  iprop((∃ f, whole (F := F) c cc0_scratch0 f) ∗ (∃ f, whole (F := F) c cc0_scratch1 f) ∗ ∃ f, whole (F := F) c cc0_scratch2 f)

def bodyPre : sProp 𝕄 :=
  iprop((levAts L lv ∗ invs A K c) ∗ (greeting (F := F) c ∗ bigSep (Finset.Ico 0 60) (tokens (F := F) c) ∗ credits (F := F) c ∗ ready (F := F) c)
    ∗ buffers (F := F) c ∗ operands A c ∗ (∃ f, whole (F := F) c cc0_stg5_0 f) ∗ owing c (owed₀ c))

/-- All counters back at zero, the result in place, nothing owed. -/
def bodyPost : sProp 𝕄 :=
  iprop((semVal (barCell c) 0 ∗ bigSep (Finset.Ico 0 60) (fun n => semVal (sendCell c n) 0) ∗ bigSep (Finset.Ico 0 60) fun n => semVal (recvCell c n) 0)
    ∗ buffers (F := F) c ∗ operands A c ∗ whole c cc0_stg5_0 (projected A c) ∗ owing c 0)

theorem make_lines : iprop(levAts L lv ∗ bigSep (Finset.Ico 0 60) (ends A K c) ∗ bigSep (Finset.Ico 0 60) (fun n => reached ER (sendCell c n) 0)
    ∗ bigSep (Finset.Ico 0 60) (fun n => reached ER (recvCell (right c) n) 0)) ⊢ lines A K c := by
  unfold lines wire
  rw [BI.bigSep_sep', BI.bigSep_sep']

theorem wp_body (Q : PUnit → sProp 𝕄) : iprop(bodyPre A K c ∗ (bodyPost A c -∗ Q ⟨⟩)) ⊢ Runs c (kernelBody (F := F)) Q := by
  rw [body_eq]
  unfold body
  simp only [wp_deviceId]
  unfold bodyPre bodyPost credits ready buffers operands invs
  iintro ⟨⟨⟨#Hl, #Ib, #Ile, #Iri, #Ie⟩, ⟨HG, HT, ⟨HCb, HCr⟩, ⟨Hs, Hr⟩, #Rs, #Rv⟩, ⟨⟨%f0, HK⟩, HQ, HX⟩, ⟨Hx, Hwq, Hk, Hv, Hwo⟩, Ho, HO⟩, Hpost⟩
  ihave HK := (Entails.of_eq ((slots_eq c f0).symm.trans (run_split (a := 0) (b := 4) (d := 64) (by decide) (by decide) _))) $$ HK
  icases HK with ⟨H0, H1⟩
  iapply (wp_handshake A K c f0)
  isplitr
  · unfold invs
    isplitr; · iexact Hl
    isplitr
    · isplitr; · iexact Ib
      isplitr; · iexact Ile
      isplitr; · iexact Iri
      iexact Ie
    iexact Rv
  isplitl [HG HCb H1 HO]
  · isplitl [HG]; · iexact HG
    isplitl [HCb]; · iexact HCb
    isplitl [H1]; · iexact H1
    iexact HO
  unfold handover
  iintro ⟨⟨HF, #Rn⟩, Hb, HO⟩
  iapply (wp_fills A c f0)
  isplitl [Hk Hv H0]
  · isplitl [Hk]; · iexact Hk
    isplitl [Hv]; · iexact Hv
    iexact H0
  iintro ⟨Hk, Hv, H0⟩
  iapply (wp_queryStep A c)
  isplitl [Hx Hwq HQ]
  · isplitl [Hx]; · iexact Hx
    isplitl [Hwq]; · iexact Hwq
    iexact HQ
  iintro ⟨Hx, Hwq, HQ⟩
  iapply (wp_ring A K c)
  unfold ringPre ringPost
  isplitr
  · iapply (make_lines A K c)
    isplitr; · iexact Hl
    isplitr; · iexact Ie
    isplitr; · iexact Rs
    iexact Rn
  isplitl [H0 HF HT HCr Hs Hr HO]
  · isplitl [H0]; · iexact H0
    isplitl [HF]; · iexact HF
    isplitl [HT]; · iexact HT
    isplitl [HCr Hr]
    · unfold incoming
      rw [BI.bigSep_sep']
      isplitl [HCr]; · iexact HCr
      iexact Hr
    isplitl [Hs]; · iexact Hs
    iexact HO
  iintro ⟨HK, HzS, HzR, HO⟩
  ihave HK := (Entails.of_eq (slots_eq c (slots A c))) $$ HK
  iapply (wp_tiles A c)
  isplitl [HK HQ HX]
  · isplitl [HK]; · iexact HK
    isplitl [HQ]; · iexact HQ
    iexact HX
  iintro ⟨HK, HQ, HX⟩
  iapply (wp_outStep A c)
  isplitl [HX Hwo Ho]
  · isplitl [HX]; · iexact HX
    isplitl [Hwo]; · iexact Hwo
    iexact Ho
  iintro ⟨HX, Hwo, Ho⟩
  iapply Hpost
  isplitl [Hb HzS HzR]
  · isplitl [Hb]; · iexact Hb
    isplitl [HzS]; · iexact HzS
    iexact HzR
  isplitl [HK HQ HX]
  · isplitl [HK]; · iexists _; iexact HK
    isplitl [HQ]; · iexists _; iexact HQ
    iexists _; iexact HX
  isplitl [Hx Hwq Hk Hv Hwo]
  · isplitl [Hx]; · iexact Hx
    isplitl [Hwq]; · iexact Hwq
    isplitl [Hk]; · iexact Hk
    isplitl [Hv]; · iexact Hv
    iexact Hwo
  isplitl [Ho]; · iexact Ho
  iexact HO

end Cert.KernelIdeal.Ring
-- ==== Proof.KernelIdeal.Region.lean ====
/-
  The kernel's region of the program: what every device's arrays hold when it is entered, what its one grid point leaves, and
  that the kernel's function meets the pipeline's obligation there.
-/
module

public import proofs.«01_k».proof.Proof.KernelIdeal.Body
public import proofs.«01_k».proof.Proof.Gen.KernelIdeal.Frame
public import Idealize.ShloMosaic.Lib.Pipeline.RegionTalk
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ)

/-- The operands every device's kernel is handed: its arrays, the keys and values reshaped. -/
def staged : Staged F where
  x d := V m d main_arg0
  wq d := V m d main_arg1
  key d := V m d main_v1
  val d := V m d main_v2
  wo d := V m d main_arg4

/-! ## Whole-array windows -/

/-- The block of a window that is its whole array is the array. -/
theorem iblk_0 (c : Dev nD) (t : Fin cfg0.N) : iblk m c 0 t = (staged m).x c :=
  Memref.read_access_unit_zero (Elt F) main_arg0 (funext fun a => Nat.zero_mul _) _ _
theorem iblk_1 (c : Dev nD) (t : Fin cfg0.N) : iblk m c 1 t = (staged m).wq c :=
  Memref.read_access_unit_zero (Elt F) main_arg1 (funext fun a => Nat.zero_mul _) _ _
theorem iblk_2 (c : Dev nD) (t : Fin cfg0.N) : iblk m c 2 t = (staged m).key c :=
  Memref.read_access_unit_zero (Elt F) main_v1 (funext fun a => Nat.zero_mul _) _ _
theorem iblk_3 (c : Dev nD) (t : Fin cfg0.N) : iblk m c 3 t = (staged m).val c :=
  Memref.read_access_unit_zero (Elt F) main_v2 (funext fun a => Nat.zero_mul _) _ _
theorem iblk_4 (c : Dev nD) (t : Fin cfg0.N) : iblk m c 4 t = (staged m).wo c :=
  Memref.read_access_unit_zero (Elt F) main_arg4 (funext fun a => Nat.zero_mul _) _ _

/-! ## The region's data -/

/-- What a device brings to the kernel, its own send and receive cells not yet set up; -/
def Tk (c : Dev nD) : sProp 𝕄 :=
  iprop((∃ K, invs (staged m) K c) ∗ (greeting (F := F) c ∗ bigSep (Finset.Ico 0 60) (tokens (F := F) c) ∗ credits (F := F) c)
    ∗ (bigSep (Finset.Ico 0 60) (fun n => openTok ER (sendCell c n)) ∗ bigSep (Finset.Ico 0 60) fun n => openTok ER (recvCell c n)))
/-- and set up. -/
def Xk (c : Dev nD) : sProp 𝕄 :=
  iprop((∃ K, levAts L lv ∗ invs (staged m) K c) ∗ (greeting (F := F) c ∗ bigSep (Finset.Ico 0 60) (tokens (F := F) c) ∗ credits (F := F) c ∗ ready (F := F) c))
/-- All it keeps: its barrier's counter at zero. -/
def Yk (c : Dev nD) : sProp 𝕄 := semVal (barCell c) 0

/-- Its own send and receive counters at zero. -/
def counters (c : Dev nD) : sProp 𝕄 :=
  iprop(bigSep (Finset.Ico 0 60) (fun n => semVal (sendCell c n) 0) ∗ bigSep (Finset.Ico 0 60) fun n => semVal (recvCell c n) 0)

/-- Before and after the one grid point. -/
def before (c : Dev nD) : sProp 𝕄 := iprop(Xk m c ∗ buffers (F := F) c ∗ ∃ r, prngReg c r)
def afterwards (c : Dev nD) : sProp 𝕄 := iprop((Yk (F := F) c ∗ counters (F := F) c) ∗ buffers (F := F) c ∗ ∃ r, prngReg c r)

/-- The pipeline's data: the arrays as found, the staged blocks left in place, the result computed. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => projected (staged m) c
    | ⟨_ + 6, h⟩ => absurd h (Nat.not_lt.2 (Nat.le_add_left _ _))
  Φ t := match t with
    | ⟨0, _⟩ => before m c
    | ⟨_ + 1, _⟩ => afterwards c
  q _ := fullShare
  owed t := match t with
    | ⟨0, _⟩ => owed₀ c
    | ⟨_ + 1, _⟩ => 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c := fun _ => dat m

/-! ## The body obligation -/

/-- A staging buffer at given contents, as the pipeline passes it. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_whole (c : Dev nD) (b : Ref sig .tc) (X Y : b.ty.Contents (Elt F)) (h : X = Y) : stg c b X ⊢ whole c b Y := by
  subst h
  iintro ⟨%f, %hf, H⟩
  subst hf
  iexact H
theorem whole_stg (c : Dev nD) (b : Ref sig .tc) (X Y : b.ty.Contents (Elt F)) (h : X = Y) : whole c b Y ⊢ stg c b X := by
  subst h
  iintro H
  iexists _; isplitr; · ipureintro; rfl
  iexact H

/-- What the point starts from and ends with. -/
def pointPre (c : Dev nD) : sProp 𝕄 :=
  iprop(before m c ∗ (dat m c).owesAt () t0_0.castSucc
    ∗ (∃ d, stg c cc0_stg0_0 ((dat m c).before (0 : Fin 6) t0_0 d)) ∗ (∃ d, stg c cc0_stg1_0 ((dat m c).before (1 : Fin 6) t0_0 d))
    ∗ (∃ d, stg c cc0_stg2_0 ((dat m c).before (2 : Fin 6) t0_0 d)) ∗ (∃ d, stg c cc0_stg3_0 ((dat m c).before (3 : Fin 6) t0_0 d))
    ∗ (∃ d, stg c cc0_stg4_0 ((dat m c).before (4 : Fin 6) t0_0 d)) ∗ (∃ d, stg c cc0_stg5_0 ((dat m c).before (5 : Fin 6) t0_0 d)))
def pointPost (c : Dev nD) : sProp 𝕄 :=
  iprop(afterwards (F := F) c ∗ (dat m c).owesAt () t0_0.succ
    ∗ stg c cc0_stg0_0 (iblk m c 0 t0_0) ∗ stg c cc0_stg1_0 (iblk m c 1 t0_0) ∗ stg c cc0_stg2_0 (iblk m c 2 t0_0)
    ∗ stg c cc0_stg3_0 (iblk m c 3 t0_0) ∗ stg c cc0_stg4_0 (iblk m c 4 t0_0) ∗ stg c cc0_stg5_0 (projected (staged m) c))

theorem owes_out (c : Dev nD) (t : Fin (cfg0.N + 1)) : ((dat m c).owesAt () t : sProp 𝕄) ⊢ owing c ((dat m c).owed t) := by
  unfold Dat.owesAt Pipeline.owesWithin
  iintro ⟨%W, -, HO⟩
  iexists W; iexact HO
theorem owes_in (c : Dev nD) (t : Fin (cfg0.N + 1)) : owing c ((dat m c).owed t) ⊢ ((dat m c).owesAt () t : sProp 𝕄) := by
  unfold Dat.owesAt Pipeline.owesWithin
  iintro ⟨%W, HO⟩
  iexists W; isplitr; · ipureintro; exact fun _ _ => Or.inl trivial
  iexact HO

/-- What the pipeline fetches for each operand. -/
theorem found_0 (c : Dev nD) (d) : (dat m c).before (0 : Fin 6) t0_0 d = (staged m).x c := by
  refine Eq.trans ?_ (iblk_0 m c t0_0)
  unfold Dat.before; rw [if_pos (fetch0_0 t0_0)]; rfl
theorem found_1 (c : Dev nD) (d) : (dat m c).before (1 : Fin 6) t0_0 d = (staged m).wq c := by
  refine Eq.trans ?_ (iblk_1 m c t0_0)
  unfold Dat.before; rw [if_pos (fetch0_1 t0_0)]; rfl
theorem found_2 (c : Dev nD) (d) : (dat m c).before (2 : Fin 6) t0_0 d = (staged m).key c := by
  refine Eq.trans ?_ (iblk_2 m c t0_0)
  unfold Dat.before; rw [if_pos (fetch0_2 t0_0)]; rfl
theorem found_3 (c : Dev nD) (d) : (dat m c).before (3 : Fin 6) t0_0 d = (staged m).val c := by
  refine Eq.trans ?_ (iblk_3 m c t0_0)
  unfold Dat.before; rw [if_pos (fetch0_3 t0_0)]; rfl
theorem found_4 (c : Dev nD) (d) : (dat m c).before (4 : Fin 6) t0_0 d = (staged m).wo c := by
  refine Eq.trans ?_ (iblk_4 m c t0_0)
  unfold Dat.before; rw [if_pos (fetch0_4 t0_0)]; rfl

theorem point (c : Dev nD) : pointPre m c ⊢ Runs c (kernelBody (F := F)) (fun _ => pointPost m c) := by
  unfold pointPre before Xk
  iintro ⟨⟨⟨⟨%K, Hl, Hi⟩, HG, HT, HC, HR⟩, HB, Hp⟩, HO, ⟨%d0, H0⟩, ⟨%d1, H1⟩, ⟨%d2, H2⟩, ⟨%d3, H3⟩, ⟨%d4, H4⟩, ⟨%d5, H5⟩⟩
  ihave H0 := (stg_whole c cc0_stg0_0 _ _ (found_0 m c d0)) $$ H0
  ihave H1 := (stg_whole c cc0_stg1_0 _ _ (found_1 m c d1)) $$ H1
  ihave H2 := (stg_whole c cc0_stg2_0 _ _ (found_2 m c d2)) $$ H2
  ihave H3 := (stg_whole c cc0_stg3_0 _ _ (found_3 m c d3)) $$ H3
  ihave H4 := (stg_whole c cc0_stg4_0 _ _ (found_4 m c d4)) $$ H4
  ihave HO := (owes_out m c t0_0.castSucc) $$ HO
  iapply (wp_body (staged m) K c fun _ => pointPost m c)
  unfold bodyPre bodyPost operands
  isplitr [Hp]
  · isplitl [Hl Hi]; · isplitl [Hl] <;> iassumption
    isplitl [HG HT HC HR]
    · isplitl [HG]; · iexact HG
      isplitl [HT]; · iexact HT
      isplitl [HC] <;> iassumption
    isplitl [HB]; · iexact HB
    isplitl [H0 H1 H2 H3 H4]
    · isplitl [H0]; · iexact H0
      isplitl [H1]; · iexact H1
      isplitl [H2]; · iexact H2
      isplitl [H3]; · iexact H3
      iexact H4
    isplitl [H5]
    · icases H5 with ⟨%f, -, H5⟩; iexists f; iexact H5
    iexact HO
  iintro ⟨⟨Hb, Hs, Hr⟩, HB, ⟨H0, H1, H2, H3, H4⟩, H5, HO⟩
  unfold pointPost afterwards Yk counters
  isplitl [Hb Hs Hr HB Hp]
  · isplitl [Hb Hs Hr]
    · isplitl [Hb]; · iexact Hb
      isplitl [Hs] <;> iassumption
    isplitl [HB]; · iexact HB
    iexact Hp
  isplitl [HO]; · iapply (owes_in m c t0_0.succ); iexact HO
  isplitl [H0]; · iapply (whole_stg c cc0_stg0_0 _ _ (iblk_0 m c t0_0)); iexact H0
  isplitl [H1]; · iapply (whole_stg c cc0_stg1_0 _ _ (iblk_1 m c t0_0)); iexact H1
  isplitl [H2]; · iapply (whole_stg c cc0_stg2_0 _ _ (iblk_2 m c t0_0)); iexact H2
  isplitl [H3]; · iapply (whole_stg c cc0_stg3_0 _ _ (iblk_3 m c t0_0)); iexact H3
  isplitl [H4]; · iapply (whole_stg c cc0_stg4_0 _ _ (iblk_4 m c t0_0)); iexact H4
  iapply (whole_stg c cc0_stg5_0 _ _ rfl); iexact H5

set_option maxRecDepth 65536 in
/-- The kernel's function meets the pipeline's obligation. -/
theorem obligation (c : Dev nD) : BodyObligation (dat (F := F) m c) (defs₀ (F := F)) 𝒱₀ () Set.univ := fun t => by
  rw [fin_N0 t]
  rw [bigSep_W0, bigSep_W0]
  simp only [owns_whole]
  show pointPre m c ⊢ Runs c (kernelBody (F := F)) (fun _ => pointPost m c)
  exact point m c

/-- The result's array once the block is written back. -/
theorem arr_out (c : Dev nD) : (dat m c).arrAt (5 : Fin 6) cfg0.N = projected (staged m) c :=
  (dat m c).arrAt_eq_of_cover 5 (projected (staged m) c)
    (fun t _ => (Memref.read_access_unit_zero (Elt F) main_v3 (funext fun a => Nat.zero_mul _) _ _).symm)
    fun i => ⟨t0_0, flush0_5 t0_0, by
      have e : ((cfg0.win 5).blk t0_0).view.emb i = i := funext fun a => Fin.ext ((Pipeline.Window.rect_emb_val_of_index_zero win0_5 t0_0 a rfl i))
      rw [← e]; exact View.emb_mem_set _ i⟩

end Cert.KernelIdeal.Ring
-- ==== Proof.KernelIdeal.Cells.lean ====
/-
  The launch's share of the protocol: every cell's invariant made once for the whole ring, the tokens dealt to the devices that
  pay, the credit of what is to be paid, and a device's own cells set up when it enters the kernel.
-/
module

public import proofs.«01_k».proof.Proof.KernelIdeal.Region

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The kernel's own semaphores -/

/-- Which end of which copy. -/
abbrev End : Type := Bool × Fin 60
/-- Its semaphore. -/
abbrev endSem (k : End) : SemLoc sig := ofRole (some k)

/-- A family over sixty numbers, however they are spelt. -/
theorem bigSep_sixty (Φ : ℕ → sProp 𝕄) : bigSep Finset.univ (fun n : Fin 60 => Φ n.val) = bigSep (Finset.Ico 0 60) Φ := by
  rw [show Finset.Ico 0 60 = (Finset.univ : Finset (Fin 60)).map Fin.valEmbedding from by decide, BI.bigSep_map]
  rfl

theorem bigSep_ends (c : Dev nD) (Φ : GSem nD τ sig → sProp 𝕄) :
    bigSep Finset.univ (fun k : End => Φ (cellAt c (some k)))
      = iprop(bigSep (Finset.Ico 0 60) (fun n => Φ (sendCell c n)) ∗ bigSep (Finset.Ico 0 60) fun n => Φ (recvCell c n)) := by
  rw [BI.bigSep_univ_prod, bigSep_univ_eq_bigSepL [false, true] (by decide) (by decide)]
  rw [← bigSep_sixty (fun n => Φ (sendCell c n)), ← bigSep_sixty (fun n => Φ (recvCell c n))]
  rfl

theorem endFacts : Pipeline.OwnSemFacts spec0 endSem where
  isScoped := by decide +kernel
  inj k k' h := Option.some.inj (ofRole_injective h)
  disj := by
    have hs : ∀ (w : Fin 6) (s : Fin (spec0 w).nbuf), ((spec0 w).sem s).val < 6 := by decide
    rintro ⟨_ | _, n⟩ w s h
    · have := sendS_val n; have := hs w s; have := congrArg Fin.val (SemLoc.dma.inj h); omega
    · have := recvS_val n; have := hs w s; have := congrArg Fin.val (SemLoc.dma.inj h); omega

/-- The staging semaphores have no role. -/
theorem role_staging (w : Fin 6) (s : Fin (spec0 w).nbuf) : role (.dma ((spec0 w).sem s)) = none := by
  unfold role Function.partialInv
  rw [dif_neg]
  rintro ⟨_ | k, h⟩
  · cases h
  · exact endFacts.disj k w s h

/-! ## All the cells -/

def barEmb : Dev nD ↪ GSem nD τ sig := ⟨barCell, fun _ _ h => congrArg (fun g : GSem nD τ sig => g.1.1) h⟩
def endEmb : Dev nD × End ↪ GSem nD τ sig :=
  ⟨fun ck => cellAt ck.1 (some ck.2), fun _ _ h =>
    Prod.ext (congrArg (fun g : GSem nD τ sig => g.1.1) h) (endFacts.inj (congrArg Prod.snd h))⟩

abbrev barCells : Finset (GSem nD τ sig) := Finset.univ.map barEmb
abbrev endCells : Finset (GSem nD τ sig) := Finset.univ.map endEmb

theorem disjoint_cells : Disjoint (barCells : Finset (GSem nD τ sig)) endCells := by
  rw [Finset.disjoint_left]
  rintro g h₁ h₂
  obtain ⟨c, -, rfl⟩ := Finset.mem_map.mp h₁
  obtain ⟨ck, -, h⟩ := Finset.mem_map.mp h₂
  cases ofRole_injective (a₁ := some ck.2) (a₂ := none) (congrArg Prod.snd h)

theorem bar_mem (c : Dev nD) : barCell c ∈ (barCells ∪ endCells : Finset (GSem nD τ sig)) :=
  Finset.mem_union_left _ (Finset.mem_map_of_mem barEmb (Finset.mem_univ c))
theorem send_mem (c : Dev nD) {n : ℕ} (hn : n < 60) : sendCell c n ∈ (barCells ∪ endCells : Finset (GSem nD τ sig)) :=
  Finset.mem_union_right _ (Finset.mem_map_of_mem endEmb (Finset.mem_univ (c, ((false, ⟨n, hn⟩) : End))))
theorem recv_mem (c : Dev nD) {n : ℕ} (hn : n < 60) : recvCell c n ∈ (barCells ∪ endCells : Finset (GSem nD τ sig)) :=
  Finset.mem_union_right _ (Finset.mem_map_of_mem endEmb (Finset.mem_univ (c, ((true, ⟨n, hn⟩) : End))))

/-! ## The tokens -/

/-- Every payment there is: two into each barrier, one into every other cell. -/
abbrev payment : Dev nD × (Bool ⊕ End) → GSem nD τ sig × ℕ × Bool
  | (c, .inl d) => (barCell c, 0, d)
  | (c, .inr k) => (cellAt c (some k), 0, false)
theorem payment_injective : Function.Injective payment := by
  rintro ⟨c, d | k⟩ ⟨c', d' | k'⟩ h
  · have h1 : c = c' := congrArg (fun x : GSem nD τ sig × ℕ × Bool => x.1.1.1) h
    have h2 : d = d' := congrArg (fun x : GSem nD τ sig × ℕ × Bool => x.2.2) h
    subst h1; subst h2; rfl
  · cases ofRole_injective (a₁ := none) (a₂ := some k') (congrArg (fun x : GSem nD τ sig × ℕ × Bool => x.1.2) h)
  · cases ofRole_injective (a₁ := some k) (a₂ := none) (congrArg (fun x : GSem nD τ sig × ℕ × Bool => x.1.2) h)
  · have h1 : c = c' := congrArg (fun x : GSem nD τ sig × ℕ × Bool => x.1.1.1) h
    have h2 : k = k' := endFacts.inj (congrArg (fun x : GSem nD τ sig × ℕ × Bool => x.1.2) h)
    subst h1; subst h2; rfl
def payments : Finset (GSem nD τ sig × ℕ × Bool) := Finset.univ.map ⟨payment, payment_injective⟩

/-- The tokens of the payments into a device's own cells; -/
def minted (c : Dev nD) : sProp 𝕄 :=
  iprop((dutyTok ER (barCell c) 0 false ∗ dutyTok ER (barCell c) 0 true)
    ∗ (bigSep (Finset.Ico 0 60) (fun n => dutyTok ER (sendCell c n) 0 false) ∗ bigSep (Finset.Ico 0 60) fun n => dutyTok ER (recvCell c n) 0 false))
/-- and of the payments it makes. -/
def dealt (c : Dev nD) : sProp 𝕄 :=
  iprop((dutyTok ER (barCell (right c)) 0 false ∗ dutyTok ER (barCell (left c)) 0 true)
    ∗ (bigSep (Finset.Ico 0 60) (fun n => dutyTok ER (sendCell c n) 0 false) ∗ bigSep (Finset.Ico 0 60) fun n => dutyTok ER (recvCell (right c) n) 0 false))

theorem minted_eq : bigSep payments (fun x => (dutyTok ER x.1 x.2.1 x.2.2 : sProp 𝕄)) = bigSep Finset.univ (minted (F := F)) := by
  unfold payments
  rw [BI.bigSep_map, BI.bigSep_univ_prod]
  refine BI.bigSep_congr fun c _ => ?_
  rw [BI.bigSep_univ_sum, bigSep_univ_eq_bigSepL [false, true] (by decide) (by decide)]
  unfold minted
  rw [← bigSep_ends c fun g => dutyTok ER g 0 false]
  rfl

/-- The tokens go round the ring. -/
theorem deal : bigSep Finset.univ (minted (F := F)) ⊢ bigSep Finset.univ (dealt (F := F)) := by
  unfold minted dealt
  rw [BI.bigSep_sep', BI.bigSep_sep', BI.bigSep_sep', BI.bigSep_sep', BI.bigSep_sep', BI.bigSep_sep',
    BI.bigSep_univ_equiv ring (fun c : Dev nD => (dutyTok ER (barCell c) 0 false : sProp 𝕄)),
    BI.bigSep_univ_equiv ring.symm (fun c : Dev nD => (dutyTok ER (barCell c) 0 true : sProp 𝕄)),
    BI.bigSep_univ_equiv ring (fun c : Dev nD => (bigSep (Finset.Ico 0 60) fun n => dutyTok ER (recvCell c n) 0 false : sProp 𝕄))]
  exact BI.Entails.refl _

/-! ## The launch credit -/

theorem tally_bar (d c : Dev nD) : tallyAt (nD := nD) (τ := τ) (sig := sig) (barCell d) () 1 (barCell c) () = if d = c then 1 else 0 := by
  rw [tallyAt_apply]
  by_cases h : d = c
  · subst h; rw [if_pos rfl, if_pos ⟨rfl, rfl⟩]
  · rw [if_neg h, if_neg fun e => h (congrArg (fun g : GSem nD τ sig => g.1.1) e.1).symm]

theorem tally_recv (d c : Dev nD) {i n : ℕ} (hi : i < 60) (hn : n < 60) :
    tallyAt (nD := nD) (τ := τ) (sig := sig) (recvCell d i) () N (recvCell c n) () = if d = c ∧ i = n then N else 0 := by
  rw [tallyAt_apply]
  by_cases h : d = c ∧ i = n
  · obtain ⟨rfl, rfl⟩ := h; rw [if_pos ⟨rfl, rfl⟩, if_pos ⟨rfl, rfl⟩]
  · rw [if_neg h, if_neg fun e => h ⟨(congrArg (fun g : GSem nD τ sig => g.1.1) e.1).symm, ?_⟩]
    have := ofRole_injective (a₁ := some (true, ⟨n, hn⟩)) (a₂ := some (true, ⟨i, hi⟩)) (congrArg Prod.snd e.1)
    exact (congrArg Fin.val (congrArg Prod.snd (Option.some.inj this))).symm

theorem bar_ne_recv (d c : Dev nD) {n : ℕ} (hn : n < 60) : barCell d ≠ recvCell c n := fun h => by
  cases ofRole_injective (a₁ := none) (a₂ := some (true, ⟨n, hn⟩)) (congrArg Prod.snd h)

theorem due_bar (d c : Dev nD) : due d 0 (barCell c) () = 0 := by
  by_contra h
  obtain ⟨i, -, hi, e⟩ := due_pos d 0 (barCell c) () (Nat.pos_of_ne_zero h)
  exact bar_ne_recv _ _ hi e

theorem due_recv (d c : Dev nD) {n : ℕ} (hn : n < 60) : due d 0 (recvCell c n) () = if right d = c then N else 0 := by
  unfold due
  rw [Finset.sum_apply, Finsupp.finset_sum_apply,
    Finset.sum_congr rfl fun i hi => tally_recv (right d) c (Finset.mem_Ico.mp hi).2 hn]
  by_cases h : right d = c
  · rw [if_pos h, Finset.sum_congr rfl fun i _ => if_congr (and_iff_right h) rfl rfl, Finset.sum_ite_eq', if_pos (Finset.mem_Ico.mpr ⟨Nat.zero_le _, hn⟩)]
  · rw [if_neg h, Finset.sum_congr rfl fun i _ => if_neg fun e => h e.1, Finset.sum_const_zero]

theorem owed_bar (d c : Dev nD) : owed₀ d (barCell c) () = (if right d = c then 1 else 0) + if left d = c then 1 else 0 := by
  unfold owed₀
  rw [Pi.add_apply, Finsupp.add_apply, Pi.add_apply, Finsupp.add_apply, due_bar, tally_bar, tally_bar, Nat.zero_add]

theorem owed_recv (d c : Dev nD) {n : ℕ} (hn : n < 60) : owed₀ d (recvCell c n) () = if right d = c then N else 0 := by
  unfold owed₀
  rw [Pi.add_apply, Finsupp.add_apply, Pi.add_apply, Finsupp.add_apply, due_recv d c hn,
    tallyAt_ne_cell (bar_ne_recv _ _ hn).symm, tallyAt_ne_cell (bar_ne_recv _ _ hn).symm]
  rfl

theorem right_iff (d c : Dev nD) : right d = c ↔ d = left c := ⟨fun h => by rw [← h, left_right], fun h => by rw [h, right_left]⟩
theorem left_iff (d c : Dev nD) : left d = c ↔ d = right c := ⟨fun h => by rw [← h, right_left], fun h => by rw [h, left_right]⟩

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_congr rfl fun d _ => if_congr (right_iff d c) rfl rfl, Finset.sum_ite_eq' Finset.univ (left c) fun _ => 1, if_pos (Finset.mem_univ _),
    Finset.sum_congr rfl fun d _ => if_congr (left_iff d c) rfl rfl, Finset.sum_ite_eq' Finset.univ (right c) fun _ => 1, if_pos (Finset.mem_univ _)]

theorem launch_recv (c : Dev nD) {n : ℕ} (hn : n < 60) :
    tallyOn (recvCell c n) (launchCredit (Pipeline.owing owed₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c hn,
    Finset.sum_congr rfl fun d _ => if_congr (right_iff d c) rfl rfl, Finset.sum_ite_eq' Finset.univ (left c) fun _ => N, if_pos (Finset.mem_univ _)]

/-- The receive semaphores. -/
def recvEmb : Fin 60 ↪ SemLoc sig := ⟨fun n => endSem (true, n), fun _ _ h => congrArg Prod.snd (endFacts.inj h)⟩

/-- What a device is to be paid, it holds the credit of. -/
theorem launch_credits (c : Dev nD) : (Pipeline.launchCred owed₀ c : sProp 𝕄) ⊢ credits (F := F) c := by
  unfold Pipeline.launchCred credits
  rw [bigSep_univ_at _ (SemLoc.reg barS), launch_bar, ← bigSep_sixty fun n => (cred (tallyAt (recvCell c n) () N) : sProp 𝕄)]
  refine sep_mono_right ?_
  have hsub : (Finset.univ : Finset (Fin 60)).map recvEmb ⊆ (Finset.univ : Finset (SemLoc sig)).erase (.reg barS) := fun sm h => by
    obtain ⟨n, -, rfl⟩ := Finset.mem_map.mp h
    exact Finset.mem_erase.mpr ⟨fun e => (by cases ofRole_injective (a₁ := some (true, n)) (a₂ := none) e), Finset.mem_univ _⟩
  refine (BI.bigSep_subset hsub).trans ?_
  rw [BI.bigSep_map]
  refine Entails.of_eq (BI.bigSep_congr fun n _ => ?_)
  rw [← launch_recv c n.isLt]
  rfl

end Cert.KernelIdeal.Ring
-- ==== Proof.KernelIdeal.Segments.lean ====
/-
  The program as two segments: the host operations that reshape the keys and the values, then the kernel.
-/
module

public import proofs.«01_k».proof.Proof.KernelIdeal.Cells

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

local notation "ℍ" => Pipeline.HostSeg (Name := ℕ) (U := UU) (pcfgs (F := F)) defs₀ 𝒱₀ L lv
local notation "ℝ𝕊" => Pipeline.RegionSeg (pcfgs (F := F)) adm (pdats m) () defs₀ 𝒱₀ L lv

/-! ## What the buffers hold -/

/-- A device's buffers at the launch, after the host operations, and after the kernel. -/
def V₀ (c : Dev nD) : Valuation τ sig (Elt F) := fun b => m (c, b)
def V₁ (c : Dev nD) : Valuation τ sig (Elt F) := StableHlo.after hostOps0 (V₀ m c)
def V₂ (c : Dev nD) : Valuation τ sig (Elt F) := Function.update (V₁ m c) (Proc.devRef .tc main_v3) (projected (staged m) c)

theorem V₂_ne (c : Dev nD) {b : DevRef τ sig} (h : b ≠ Proc.devRef .tc main_v3) : V₂ m c b = V₁ m c b := Function.update_of_ne h _ _
theorem V₂_out (c : Dev nD) : V₂ m c (Proc.devRef .tc main_v3) = projected (staged m) c := Function.update_self _ _ _

/-- The buffers that outlive the kernel, and those of them that are none of its operands. -/
abbrev lasting : Finset (DevRef τ sig) := Pipeline.ucRefs τ sig
abbrev arrs : Finset (DevRef τ sig) := Pipeline.arrRefs (τ := τ) spec0
abbrev others : Finset (DevRef τ sig) := lasting \ arrs

theorem arrs_sub : arrs ⊆ lasting := Pipeline.arrRefs_sub_ucRefs spec0 (by decide)

/-! ## The host operations -/

/-- What rides beside the buffers up to the kernel. -/
def R (c : Dev nD) : sProp 𝕄 := iprop(Tk m c ∗ (∃ r, prngReg c r) ∗ owing c (owed₀ c))

def seg0 : ℍ :=
  Pipeline.HostSeg.ofOps _ _ _ _ _ lasting hostOps0
    (fun op h => Pipeline.sub_ucRefs op (List.forall_iff_forall_mem.mp hostOps0_sub op h))
    (fun op h => List.forall_iff_forall_mem.mp hostOps0_fresh op h) (V₀ m) (R m)

/-! ## The kernel's region -/

/-- Setting up a family of cells. -/
theorem open_family (A : Staged F) (K : GSem nD τ sig → ℕ) (g : ℕ → GSem nD τ sig) (s : Finset ℕ) :
    iprop((bigSep s fun n => cellInv ER (talk A) (K (g n)) (g n)) ∗ (bigSep s fun n => openTok ER (g n)) ∗ bigSep s fun n => semVal (g n) 0)
      ⊢ (|={Set.univ}=> ((bigSep s fun n => atPos ER (g n) 0 ∅ 0) ∗ bigSep s fun n => reached ER (g n) 0) : sProp 𝕄) := by
  rw [← BI.bigSep_sep', ← BI.bigSep_sep', ← BI.bigSep_sep']
  exact (BI.bigSep_mono fun n _ => Rounds.cell_open ER (talk A) (g := g n) (Set.mem_univ (K (g n)))).trans (bigSep_fupd s _)

theorem ends_own (A : Staged F) (K : GSem nD τ sig → ℕ) (c : Dev nD) :
    bigSep (Finset.Ico 0 60) (ends A K c)
      ⊢ iprop((bigSep (Finset.Ico 0 60) fun n => cellInv ER (talk A) (K (sendCell c n)) (sendCell c n))
        ∗ bigSep (Finset.Ico 0 60) fun n => cellInv ER (talk A) (K (recvCell c n)) (recvCell c n)) := by
  unfold ends
  rw [BI.bigSep_sep', BI.bigSep_sep']
  iintro ⟨H, H', -⟩
  isplitl [H] <;> iassumption

theorem own_counters (c : Dev nD) : (Pipeline.ownSems0 endSem c : sProp 𝕄) = counters (F := F) c :=
  bigSep_ends c fun g => semVal g 0

theorem enter (c : Dev nD) : iprop(Tk m c ∗ Pipeline.ownSems0 endSem c ∗ levAts L lv) ⊢ (|={Set.univ}=> Xk m c : sProp 𝕄) := by
  rw [own_counters]
  unfold Tk Xk counters ready
  iintro ⟨⟨⟨%K, #HI⟩, ⟨HG, HT, HC⟩, HoS, HoR⟩, ⟨HvS, HvR⟩, #Hl⟩
  have hI : invs (staged m) K c ⊢ bigSep (Finset.Ico 0 60) (ends (staged m) K c) := by
    unfold invs; iintro ⟨-, -, -, H⟩; iexact H
  ihave #He := (hI.trans (ends_own (staged m) K c)) $$ HI
  icases He with ⟨#HeS, #HeR⟩
  imod (open_family (staged m) K (sendCell c) (Finset.Ico 0 60)) $$ [HoS HvS] with ⟨HaS, HrS⟩
  · isplitr; · iexact HeS
    isplitl [HoS] <;> iassumption
  imod (open_family (staged m) K (recvCell c) (Finset.Ico 0 60)) $$ [HoR HvR] with ⟨HaR, HrR⟩
  · isplitr; · iexact HeR
    isplitl [HoR] <;> iassumption
  imodintro
  isplitr
  · iexists K; isplitr; · iexact Hl
    iexact HI
  isplitl [HG]; · iexact HG
  isplitl [HT]; · iexact HT
  isplitl [HC]; · iexact HC
  isplitl [HaS HaR]
  · isplitl [HaS] <;> iassumption
  isplitl [HrS] <;> iassumption

theorem held_none (c : Dev nD) (W : Valuation τ sig (Elt F)) : (StableHlo.held (c.tc : Thread nD τ) ∅ W : sProp 𝕄) = BI.emp := by
  unfold StableHlo.held; exact BI.bigSep_empty

theorem start_point (c : Dev nD) :
    iprop(Pipeline.scopedRest spec0 c ∗ (∃ r, prngReg c r) ∗ StableHlo.held (c.tc : Thread nD τ) ∅ (V₁ m c) ∗ Xk m c) ⊢ before m c := by
  rw [scopedRest0_eq, held_none]
  unfold before buffers
  iintro ⟨HB, Hp, -, HX⟩
  isplitl [HX]; · iexact HX
  isplitl [HB]; · iexact HB
  iexact Hp

theorem end_point (c : Dev nD) : afterwards c
    ⊢ iprop(Pipeline.scopedRest spec0 c ∗ (∃ r, prngReg c r) ∗ StableHlo.held (c.tc : Thread nD τ) ∅ (V₂ m c) ∗ Pipeline.ownSems0 endSem c ∗ Yk (F := F) c) := by
  rw [scopedRest0_eq, held_none, own_counters]
  unfold afterwards buffers
  iintro ⟨⟨HY, HC⟩, HB, Hp⟩
  isplitl [HB]; · iexact HB
  isplitl [Hp]; · iexact Hp
  isplitr; · iempintro
  isplitl [HC]; · iexact HC
  iexact HY

/-- Nothing but receive cells and barriers is owed, and those lie above the staging cells. -/
theorem owed_pos (c : Dev nD) (g : GSem nD τ sig) (h : 0 < owed₀ c g ()) : () ∈ L g ∧ 0 < lv g () := by
  unfold owed₀ at h
  rw [Pi.add_apply, Finsupp.add_apply, Pi.add_apply, Finsupp.add_apply] at h
  have bar (d : Dev nD) (hb : 0 < tallyAt (barCell d) () 1 g ()) : () ∈ L g ∧ 0 < lv g () := by
    rw [tallyAt_apply] at hb
    split at hb
    · next e => rw [e.1, L_tc]; exact ⟨Finset.mem_singleton_self _, by show 0 < level (role (.reg barS)); rw [role_bar]; decide⟩
    · exact absurd hb (Nat.lt_irrefl 0)
  rcases Nat.add_pos_iff_pos_or_pos.mp h with h | h
  · rcases Nat.add_pos_iff_pos_or_pos.mp h with h | h
    · obtain ⟨i, -, hi, rfl⟩ := due_pos c 0 g () h
      rw [L_tc]
      exact ⟨Finset.mem_singleton_self _, by
        show 0 < level (role (ofRole (some (true, ⟨i, hi⟩)))); rw [role_ofRole]; exact Nat.lt_of_lt_of_le (by decide) (Nat.le_add_right 2 i)⟩
    · exact bar _ h
  · exact bar _ h

theorem cut (c : Dev nD) (t : Fin ((Pipeline.pin (pcfgs (F := F)) adm 0).N + 1)) (g : GSem nD τ sig) (i : Unit)
    (h : 0 < (pdats m 0 c).owed t g i) : i ∈ L g ∧ (0 : ℕ) < lv g i := by
  match t, h with
  | ⟨0, _⟩, h => exact owed_pos c g h
  | ⟨_ + 1, _⟩, h => exact absurd h (Nat.lt_irrefl 0)

theorem kitP : Pipeline.PLaunchFacts (nD := nD) (τ := τ) (pcfgs (F := F)) 0 := launch0.toP

theorem found (c : Dev nD) (w : Fin 6) : (dat m c).arrAt w 0 = V₁ m c (Proc.devRef .tc (Pipeline.arrRef spec0 w)) := rfl

theorem whole_shares (c : Dev nD) (w : Fin 6) : (dat m c).share w = fullShare := by
  unfold Pipeline.Dat.share
  split <;> rfl

theorem left_with (c : Dev nD) (w : Fin 6) : (dat m c).arrAt w cfg0.N = V₂ m c (Proc.devRef .tc (Pipeline.arrRef spec0 w)) := by
  have same (w : Fin 6) (hin : (cfg0.win w).isOut = false) (hne : (Proc.devRef .tc (Pipeline.arrRef spec0 w) : DevRef τ sig) ≠ Proc.devRef .tc main_v3) :
      (dat m c).arrAt w cfg0.N = V₂ m c (Proc.devRef .tc (Pipeline.arrRef spec0 w)) :=
    ((dat m c).arrAt_in w hin cfg0.N).trans (V₂_ne m c hne).symm
  match w with
  | 0 => exact same 0 rfl (by decide)
  | 1 => exact same 1 rfl (by decide)
  | 2 => exact same 2 rfl (by decide)
  | 3 => exact same 3 rfl (by decide)
  | 4 => exact same 4 rfl (by decide)
  | 5 => exact (arr_out m c).trans (V₂_out m c).symm

theorem others_kept (c : Dev nD) : ∀ b ∈ others \ ∅, V₂ m c b = V₁ m c b := fun b hb => V₂_ne m c fun e => by
  subst e
  exact (Finset.mem_sdiff.mp (Finset.mem_sdiff.mp hb).1).2 (by decide)

set_option backward.isDefEq.respectTransparency.types false in
def reg0 : ℝ𝕊 0 :=
  Pipeline.RegionSeg.ofTalk (pcfgs (F := F)) adm (pdats m) () defs₀ 𝒱₀ L lv 0 endSem endFacts
    ∅ others (Finset.empty_subset _) kitP rfl (fun c => (obligation m c).loose)
    (fun _ => 0) owed₀ (fun c => (zero_add (owed₀ c)).symm) (fun _ => rfl) (fun _ => rfl) (whole_shares m)
    (V₁ m) (V₂ m) (others_kept m)
    (Tk m) Yk (Xk m) Yk (enter m) (start_point m) (end_point m)
    (fun c => by iintro H; imodintro; iexact H)
    (fun _ => 0)
    ⟨fun c w s => by rw [L_tc]; exact Finset.mem_singleton_self _,
      fun c w s => by show level (role (.dma ((spec0 w).sem s))) ≤ 0; rw [role_staging]; exact Nat.le_refl 0,
      fun c t g i h => cut m c t g i h⟩
    (fun _ => iprop(emp))
    (found m) (left_with m)

theorem reg0_pre (c : Dev nD) : iprop(StableHlo.held (c : Thread nD τ) lasting (V₁ m c) ∗ R m c) ⊢ (reg0 m).pre c := by
  show _ ⊢ iprop(StableHlo.held (c.tc : Thread nD τ) arrs (V₁ m c) ∗ (∃ r, prngReg c r)
    ∗ (StableHlo.held (c.tc : Thread nD τ) others (V₁ m c) ∗ emp) ∗ Tk m c ∗ ∃ Wd, owes (c : Thread nD τ) (0 + owed₀ c) Wd)
  rw [StableHlo.held_sub_split (c.tc : Thread nD τ) arrs_sub, zero_add]
  unfold R
  iintro ⟨⟨Ha, Ho⟩, HT, Hp, HO⟩
  isplitl [Ha]; · iexact Ha
  isplitl [Hp]; · iexact Hp
  isplitl [Ho]
  · isplitl [Ho]; · iexact Ho
    iempintro
  isplitl [HT]; · iexact HT
  iexact HO

theorem reg0_post (c : Dev nD) : (reg0 m).post c
    ⊢ iprop((StableHlo.held (c : Thread nD τ) lasting (V₂ m c) ∗ Yk (F := F) c) ∗ ∃ W, owes (c : Thread nD τ) (0 : CellTallies nD τ sig Unit) W) := by
  show iprop(StableHlo.held (c.tc : Thread nD τ) arrs (V₂ m c) ∗ (∃ r, prngReg c r)
    ∗ (StableHlo.held (c.tc : Thread nD τ) others (V₂ m c) ∗ emp) ∗ Yk c ∗ ∃ Wd, owes (c : Thread nD τ) (0 : CellTallies nD τ sig Unit) Wd) ⊢ _
  rw [StableHlo.held_sub_split (c.tc : Thread nD τ) arrs_sub (V₂ m c)]
  iintro ⟨Ha, -, ⟨Ho, -⟩, HY, HO⟩
  isplitr [HO]
  · isplitl [Ha Ho]
    · isplitl [Ha] <;> iassumption
    iexact HY
  iexact HO

/-- The program as its segments. -/
def segs : List (Pipeline.Seg (pcfgs (F := F)) adm (pdats m) () defs₀ 𝒱₀ L lv) := [.host (seg0 m), .region (reg0 m)]

end Cert.KernelIdeal.Ring
-- ==== Proof.KernelIdeal.Launch.lean ====
/-
  The launch: the ring's ghost state made and dealt, and the run of the whole program from it.
-/
module

public import proofs.«01_k».proof.Proof.KernelIdeal.Segments
public import Idealize.ShloMosaic.Lib.Pipeline.FrameTail

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem cells_inj : Function.Injective (Pipeline.cellOf (nD := nD) (τ := τ) (Pipeline.pin (pcfgs (F := F)) adm)) := launch0.cellOf_inj

/-- What the run starts from: the pipeline's element and the ring's. -/
def u₀ : UU :=
  (initOf (Pipeline.cells (Pipeline.pin (pcfgs (F := F)) adm) cells_inj) (Pipeline.launchToks (Pipeline.pin (pcfgs (F := F)) adm) cells_inj),
    launchOf barCells endCells payments)

/-- The ring's element, left with the first device until the launch deals from it. -/
def seed (c : Dev nD) : sProp 𝕄 := if c = 0 then BI.own (ER (launchOf barCells endCells payments)) else iprop(emp)
theorem seed_all : bigSep Finset.univ (seed (F := F)) = (BI.own (ER (launchOf barCells endCells payments)) : sProp 𝕄) := by
  rw [bigSep_univ_at _ (0 : Dev nD), BI.bigSep_congr (s := Finset.univ.erase (0 : Dev nD)) (Ψ := fun _ => (BI.emp : sProp 𝕄))
      fun c hc => by unfold seed; rw [if_neg (Finset.ne_of_mem_erase hc)]; rfl, BI.bigSep_emp_const]
  unfold seed; rw [if_pos rfl]
  exact BI.equiv_iff.mp sep_emp

/-- What every device may consult. -/
def records (κ : GSem nD τ sig → ℕ) : sProp 𝕄 :=
  iprop((bigSep (barCells ∪ endCells) fun g => cellInv ER (talk (staged m)) (κ g) g) ∗ bigSep barCells fun g => reached ER g 0)
instance records_persistent (κ : GSem nD τ sig → ℕ) : BI.Persistent (records m κ) := by unfold records; infer_instance

theorem inv_of (κ : GSem nD τ sig → ℕ) {g : GSem nD τ sig} (hg : g ∈ (barCells ∪ endCells : Finset (GSem nD τ sig))) :
    records m κ ⊢ cellInv ER (talk (staged m)) (κ g) g := by
  unfold records
  iintro ⟨H, -⟩
  ihave H := (show (bigSep (barCells ∪ endCells) fun g => (cellInv ER (talk (staged m)) (κ g) g : sProp 𝕄)) ⊢ cellInv ER (talk (staged m)) (κ g) g
    from BI.bigSep_elim hg) $$ H
  iexact H

theorem reached_of (κ : GSem nD τ sig → ℕ) (c : Dev nD) : records m κ ⊢ (reached ER (barCell c) 0 : sProp 𝕄) := by
  unfold records
  iintro ⟨-, H⟩
  ihave H := (show (bigSep barCells fun g => (reached ER g 0 : sProp 𝕄)) ⊢ reached ER (barCell c) 0
    from BI.bigSep_elim (Finset.mem_map_of_mem barEmb (Finset.mem_univ c))) $$ H
  iexact H

theorem ends_of (κ : GSem nD τ sig → ℕ) (c : Dev nD) {n : ℕ} (hn : n < 60) : records m κ ⊢ ends (staged m) κ c n := by
  unfold ends
  iintro #H
  isplitr; · iapply (inv_of m κ (send_mem c hn)); iexact H
  isplitr; · iapply (inv_of m κ (recv_mem c hn)); iexact H
  iapply (inv_of m κ (recv_mem (right c) hn)); iexact H

theorem all_ends (κ : GSem nD τ sig → ℕ) (c : Dev nD) : records m κ ⊢ bigSep (Finset.Ico 0 60) (ends (staged m) κ c) := by
  have h : iprop(records m κ ∗ bigSep (Finset.Ico 0 60) fun _ => BI.emp) ⊢ bigSep (Finset.Ico 0 60) (ends (staged m) κ c) :=
    bigSep_with_persistent fun n hn => by
      iintro ⟨H, -⟩
      iapply (ends_of m κ c (Finset.mem_Ico.mp hn).2); iexact H
  rw [BI.bigSep_emp_const] at h
  refine BIBase.Entails.trans ?_ h
  iintro H
  isplitl [H]; · iexact H
  iempintro

theorem invs_of (κ : GSem nD τ sig → ℕ) (c : Dev nD) : records m κ ⊢ invs (staged m) κ c := by
  unfold invs
  iintro #H
  isplitr; · iapply (inv_of m κ (bar_mem c)); iexact H
  isplitr; · iapply (inv_of m κ (bar_mem (left c))); iexact H
  isplitr; · iapply (inv_of m κ (bar_mem (right c))); iexact H
  iapply (all_ends m κ c); iexact H

/-- The rights to set up a device's own cells. -/
def unopened (c : Dev nD) : sProp 𝕄 :=
  iprop(bigSep (Finset.Ico 0 60) (fun n => openTok ER (sendCell c n)) ∗ bigSep (Finset.Ico 0 60) fun n => openTok ER (recvCell c n))

/-- What of the ring's ghost state is a device's own. -/
def own (c : Dev nD) : sProp 𝕄 := iprop(atPos ER (barCell c) 0 ∅ 0 ∗ unopened (F := F) c ∗ dealt (F := F) c)

/-- What of a device's launch holdings is not the ring's ghost state. -/
def belongings (c : Dev nD) : sProp 𝕄 :=
  iprop(StableHlo.held (c : Thread nD τ) lasting (V₀ m c) ∗ credits (F := F) c ∗ owes (c : Thread nD τ) (owed₀ c) ∅ ∗ ∃ r, prngReg c r)

/-- What a device starts and ends with. -/
abbrev T₀ (c : Dev nD) : sProp 𝕄 := iprop(StableHlo.held (c : Thread nD τ) lasting (V₀ m c) ∗ R m c)
abbrev Tₙ (c : Dev nD) : sProp 𝕄 := iprop(StableHlo.held (c : Thread nD τ) lasting (V₂ m c) ∗ Yk (F := F) c)

theorem T₀_intro (κ : GSem nD τ sig → ℕ) (c : Dev nD) : iprop(records m κ ∗ (own (F := F) c ∗ belongings m c)) ⊢ T₀ m c := by
  unfold belongings own unopened dealt T₀ R Tk greeting tokens
  rw [BI.bigSep_sep']
  iintro ⟨#HR, ⟨Hat, HU, ⟨Tr, Tl⟩, HT⟩, Hh, HC, HO, Hp⟩
  isplitl [Hh]; · iexact Hh
  isplitl [Hat HU Tr Tl HT HC]
  · isplitr; · iexists κ; iapply (invs_of m κ c); iexact HR
    isplitr [HU]
    · isplitl [Hat Tr Tl]
      · isplitr; · iapply (reached_of m κ (left c)); iexact HR
        isplitr; · iapply (reached_of m κ (right c)); iexact HR
        isplitl [Hat]; · iexact Hat
        isplitl [Tl] <;> iassumption
      isplitl [HT]; · iexact HT
      iexact HC
    iexact HU
  isplitl [Hp]; · iexact Hp
  iexists ∅; iexact HO

theorem counter_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

/-- One device's launch holdings, sorted. -/
theorem sorted (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ seed c)
      ⊢ (iprop(belongings m c ∗ (semVal (barCell c) 0 ∗ seed c)) : sProp 𝕄) := by
  rw [show unscopedBufs c (fun b => m ((c : Thread nD τ).loc b)) = StableHlo.held (c : Thread nD τ) lasting (V₀ m c) from
    Pipeline.unscopedBufs_held c (V₀ m c), counter_eq]
  unfold belongings
  iintro ⟨Hh, Hus, HO, Hcr, Hp, HG⟩
  ihave HC := (launch_credits (F := F) c) $$ Hcr
  isplitl [Hh HC HO Hp]
  · isplitl [Hh]; · iexact Hh
    isplitl [HC]; · iexact HC
    isplitl [HO]; · iexact HO
    iexists (ρ c); iexact Hp
  isplitl [Hus] <;> iassumption

theorem over_bars (Φ : GSem nD τ sig → sProp 𝕄) : bigSep barCells Φ = bigSep Finset.univ fun c : Dev nD => Φ (barCell c) :=
  BI.bigSep_map (s := Finset.univ) barEmb (Φ := Φ)

theorem over_ends : bigSep endCells (fun g => (openTok ER g : sProp 𝕄)) = bigSep Finset.univ (unopened (F := F)) := by
  rw [BI.bigSep_map, BI.bigSep_univ_prod]
  exact BI.bigSep_congr fun c _ => bigSep_ends c fun g => openTok ER g

theorem gather (Φ Ψ : Dev nD → sProp 𝕄) : iprop(bigSep Finset.univ Φ ∗ bigSep Finset.univ Ψ) ⊢ bigSep Finset.univ fun c => iprop(Φ c ∗ Ψ c) :=
  Entails.of_eq (BI.bigSep_sep' _ _ _).symm

/-- Every device's part, made at once. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ seed c)) ∗ levAts L lv)
      ⊢ (|={Set.univ}=> bigSep Finset.univ (T₀ m) : sProp 𝕄) := by
  iintro ⟨H, -⟩
  ihave H := (show (bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ seed c))
      ⊢ (bigSep Finset.univ fun c : Dev nD => iprop(belongings m c ∗ (semVal (barCell c) 0 ∗ seed c)) : sProp 𝕄)
    from BI.bigSep_mono fun c _ => sorted m ρ c) $$ H
  ihave H := (Entails.of_eq (BI.bigSep_sep' _ _ _)) $$ H; icases H with ⟨HB, H⟩
  ihave H := (Entails.of_eq (BI.bigSep_sep' _ _ _)) $$ H; icases H with ⟨Hv, HG⟩
  ihave Hu := (Entails.of_eq (seed_all (F := F))) $$ HG
  imod (Rounds.fund_launch ER (talk (staged m)) disjoint_cells (fun g _ h => h) payments) $$ [Hv Hu] with ⟨%κ, -, #Hinv, #Hr, Hat, Hopen, Htok⟩
  · isplitl [Hv]
    · iapply (Entails.of_eq (over_bars (F := F) fun g => semVal g 0).symm) $$ Hv
    iexact Hu
  imodintro
  iapply (bigSep_with_persistent (R := records m κ) (Φ := fun c => iprop(own (F := F) c ∗ belongings m c)) fun c _ => T₀_intro m κ c)
  isplitr
  · unfold records
    isplitr; · iexact Hinv
    iexact Hr
  iapply (gather (F := F) _ _)
  isplitr [HB]
  · unfold own
    iapply (gather (F := F) _ _); isplitl [Hat]; · iapply (Entails.of_eq (over_bars (F := F) fun g => atPos ER g 0 ∅ 0)) $$ Hat
    iapply (gather (F := F) _ _); isplitl [Hopen]; · iapply (Entails.of_eq (over_ends (F := F))) $$ Hopen
    iapply (deal (F := F))
    iapply (Entails.of_eq (minted_eq (F := F))) $$ Htok
  iexact HB

/-! ## The run -/

/-- What a device's memory reads at the end. -/
def Reads (c : Dev nD) (s : MemSt nD τ sig (Elt F)) : Prop :=
  (∀ b : Ref sig .tc, b.isScoped = false → s.mem ((c : Thread nD τ).loc b) = V₂ m c (Proc.devRef .tc b)) ∧ s.sem (barCell c) = 0

theorem read_one (c : Dev nD) (s' : Phys nD τ sig (Elt F)) (ℓ : Loc nD τ sig) (f : Buf (Elt F) ℓ) :
    iprop((ℓ ↦{fullShare} f) ∗ SI s') ⊢ (⌜s'.mem.mem ℓ = f⌝ : sProp 𝕄) := by
  iintro ⟨H, HSI⟩
  icombine HSI H gives %h
  ipureintro
  exact Buf.eq_of_forall_mem_univ h

theorem read_all (c : Dev nD) (s' : Phys nD τ sig (Elt F)) :
    iprop(StableHlo.held (c : Thread nD τ) lasting (V₂ m c) ∗ SI s')
      ⊢ (⌜∀ b : Ref sig .tc, b.isScoped = false → s'.mem.mem ((c : Thread nD τ).loc b) = V₂ m c (Proc.devRef .tc b)⌝ : sProp 𝕄) :=
  fun x hx b hb => ((sep_mono (BI.bigSep_elim (Pipeline.devRef_mem_ucRefs hb)) .rfl).trans
    (read_one c s' ((c : Thread nD τ).loc b) (V₂ m c (Proc.devRef .tc b)))) x hx

theorem read_final (c : Dev nD) (s' : Phys nD τ sig (Elt F)) :
    iprop(Tₙ m c ∗ SI s') ⊢ (|={Set.univ}=> iprop(⌜Reads m c s'.mem⌝ ∗ SI s') : sProp 𝕄) := by
  unfold Tₙ Yk
  iintro ⟨⟨Hh, Hb⟩, HSI⟩
  icombine HSI Hb gives %hb
  ihave %hm := ((read_all m c s').trans Laws.persistently_pure.2) $$ [Hh HSI]
  · isplitl [Hh] <;> iassumption
  imodintro
  isplitr
  · ipureintro
    exact ⟨hm, by simpa using hb⟩
  iexact HSI

theorem unscoped_eq : ∀ sm : SemLoc sig, sm.isScoped .tc = false → sm = .reg barS := by decide +kernel

set_option backward.isDefEq.respectTransparency.types false in
/-- From any memory with zero counters every run of the program ends, each device's buffers then hold what they held after the
    host operations but for the result, and every counter is at zero. -/
theorem run : θ_run defs (onTc (τ := τ) (main (F := F))) ⟨m, fun _ => 0, ρ⟩
    (fun r => (∀ (c : Dev nD) (b : Ref sig .tc), b.isScoped = false → r.2.mem ((c : Thread nD τ).loc b) = V₂ m c (Proc.devRef .tc b))
      ∧ r.2.sem = fun _ => 0) :=
  Pipeline.θ_run_regions_kit_sems (pcfgs (F := F)) adm (pdats m) () cells_inj EP defs₀ 𝒱₀ L lv m ρ main (segs m)
    (fun c Q => by rw [main_segs adm (pdats m) () 𝒱₀ L lv (seg0 m) (reg0 m) rfl c]; exact .rfl)
    (by simp only [segs, Pipeline.Seg.pipes_host, Pipeline.Seg.pipes_region, Pipeline.Seg.pipes_nil]; decide)
    (O₀ := owed₀) (hL := L_of_ne) (G := seed (F := F)) (u₀ := u₀ (F := F))
    (hu₀ := by
      unfold u₀
      iintro Hu
      ihave H := (ownU_pair _ _) $$ Hu
      icases H with ⟨HP, HX⟩
      imodintro
      isplitl [HP]; · iexact HP
      rw [seed_all (F := F)]; iexact HX)
    (T₀ := T₀ m) (Tₙ := Tₙ m)
    (hch := ⟨fun c => .rfl, fun c => reg0_pre m c, fun c => reg0_post m c⟩)
    (hinit := init m ρ)
    (QY := Reads m)
    (hfin := read_final m)
    (hQ := fun s h hs => ⟨fun c => (h c).1,
      sem_eq_zero hs fun c sm hsm => by
        obtain rfl := unscoped_eq sm hsm
        exact (h c).2⟩)

end Cert.KernelIdeal.Ring
-- ==== Proof.KernelIdeal.Result.lean ====
/-
  What a run of the program leaves: the result on every device, the arguments as they were, every counter at zero.
-/
module

public import proofs.«01_k».proof.Proof.KernelIdeal.Launch

@[expose] public section

noncomputable section

namespace Cert.KernelIdeal.Ring

open Cert.KernelIdeal Cert.KernelIdeal.Gen
open Idealize.ShloMosaic
open Idealize.ShloMosaic.TcCoe
open Idealize.SL Idealize.SL.Sem

variable {F : FTy → Type} [FloatOps F]
variable (m : (ℓ : Loc nD τ sig) → Buf (Elt F) ℓ) (ρ : Dev nD → PrngReg)

/-- A buffer that is not the result keeps what the host operations left. -/
theorem V₂_V (c : Dev nD) (b : Ref sig .tc) (h : b ≠ main_v3) : V₂ m c (Proc.devRef .tc b) = V m c b :=
  V₂_ne m c fun e => h (Proc.devRef_injective _ e)

/-- The argument arrays of a device are what they were at the launch. -/
def Unchanged (s : MemSt nD τ sig (Elt F)) (c : Dev nD) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)

theorem run_result : θ_run defs (onTc (τ := τ) (main (F := F))) ⟨m, fun _ => 0, ρ⟩
    (fun r => (∀ c : Dev nD, r.2.mem ((c : Thread nD τ).loc main_v3) = projected (staged m) c ∧ Unchanged m r.2 c) ∧ r.2.sem = fun _ => 0) :=
  (θ_run defs _ _).mono (fun _ h => ⟨fun c =>
      ⟨(h.1 c main_v3 rfl).trans (V₂_out m c),
        ((h.1 c main_arg0 rfl).trans (V₂_V m c _ (by decide))).trans (V_main_arg0 m c),
        ((h.1 c main_arg1 rfl).trans (V₂_V m c _ (by decide))).trans (V_main_arg1 m c),
        ((h.1 c main_arg2 rfl).trans (V₂_V m c _ (by decide))).trans (V_main_arg2 m c),
        ((h.1 c main_arg3 rfl).trans (V₂_V m c _ (by decide))).trans (V_main_arg3 m c),
        ((h.1 c main_arg4 rfl).trans (V₂_V m c _ (by decide))).trans (V_main_arg4 m c)⟩, h.2⟩)
    (run m ρ)

end Cert.KernelIdeal.Ring
-- ==== Proof.Value.Soft.lean ====
/-
  Softmax-weighted averages over the extended reals: what a row of scores makes of a column of values, and that keys whose
  score is minus infinity may be left out of it.
-/
module

public import Idealize.ShloMosaic.Lib.Pointwise

@[expose] public section

noncomputable section

namespace Cert.Value

open Idealize.ShloMosaic

variable {ι κ : Type} [Fintype ι] [Fintype κ]

/-- A number of the extended line that is neither infinity. -/
def IsReal (x : EReal) : Prop := ∃ r : ℝ, x = (r : EReal)

/-- The greatest of a row of scores. -/
def top (s : ι → EReal) : EReal := Finset.univ.fold max ⊥ s

/-- A score's weight before the row is normalised. -/
def weight (s : ι → EReal) (j : ι) : EReal := Ideal.exp (s j - top s)

/-- The values averaged with the normalised weights of the scores. -/
def mix (s v : ι → EReal) : EReal := ∑ j, Ideal.div (weight s j) (∑ k, weight s k) * v j

/-- The greatest score is the supremum. -/
theorem top_eq_sup (s : ι → EReal) : top s = Finset.univ.sup s := rfl

/-- Scores of minus infinity do not raise the maximum. -/
theorem top_restrict (e : κ → ι) (s : ι → EReal) (t : κ → EReal) (ht : ∀ j, t j = s (e j))
    (hs : ∀ i, i ∉ Set.range e → s i = ⊥) : top s = top t := by
  rw [top_eq_sup, top_eq_sup]
  refine le_antisymm (Finset.sup_le fun i _ => ?_) (Finset.sup_le fun j _ => ?_)
  · by_cases hi : i ∈ Set.range e
    · obtain ⟨j, rfl⟩ := hi
      rw [← ht]; exact Finset.le_sup (Finset.mem_univ j)
    · rw [hs i hi]; exact bot_le
  · rw [ht]; exact Finset.le_sup (f := s) (Finset.mem_univ (e j))

/-- Among real scores the greatest is one of them. -/
theorem exists_top [Nonempty κ] (t : κ → EReal) : ∃ j, top t = t j := by
  obtain ⟨j, -, h⟩ := Finset.exists_mem_eq_sup (Finset.univ : Finset κ) Finset.univ_nonempty t
  exact ⟨j, h⟩

/-- A weight is not negative. -/
theorem exp_nonneg (x : EReal) : 0 ≤ Ideal.exp x := by
  induction x with
  | bot => simp
  | top => simp
  | coe r => rw [Ideal.exp_coe]; exact_mod_cast (Real.exp_pos r).le

/-- The weights of a row of real scores do not add up to zero: the greatest score's weight is one. -/
theorem total_ne_zero [Nonempty κ] (t : κ → EReal) (hr : ∀ j, IsReal (t j)) : ∑ k, weight t k ≠ 0 := by
  obtain ⟨j, hj⟩ := exists_top t
  have h1 : weight t j = 1 := by
    obtain ⟨r, h⟩ := hr j
    unfold weight
    rw [hj, h, ← EReal.coe_sub, sub_self, Ideal.exp_coe, Real.exp_zero]; rfl
  have h2 : (1 : EReal) ≤ ∑ k, weight t k := by
    rw [← h1]; exact Finset.single_le_sum (f := weight t) (fun k _ => exp_nonneg _) (Finset.mem_univ j)
  intro h0
  rw [h0] at h2
  exact absurd h2 (by norm_num)

/-- Keys whose score is minus infinity may be left out, whatever their values are, when the others' scores are real. -/
theorem mix_restrict [Nonempty κ] (e : κ → ι) (he : Function.Injective e) (s v : ι → EReal) (t w : κ → EReal)
    (ht : ∀ j, t j = s (e j)) (hw : ∀ j, w j = v (e j)) (hs : ∀ i, i ∉ Set.range e → s i = ⊥) (hr : ∀ j, IsReal (t j)) :
    mix t w = mix s v := by
  have htop := top_restrict e s t ht hs
  obtain ⟨j₀, hj₀⟩ := exists_top t
  have hoff : ∀ i, i ∉ Set.range e → weight s i = 0 := by
    intro i hi
    obtain ⟨r, h⟩ := hr j₀
    unfold weight
    rw [hs i hi, htop, hj₀, h]; simp
  have hon : ∀ j, weight t j = weight s (e j) := fun j => by unfold weight; rw [htop, ht]
  have hsum : ∑ k, weight t k = ∑ i, weight s i := Fintype.sum_of_injective e he _ _ hoff hon
  have hne : ∑ i, weight s i ≠ 0 := hsum ▸ total_ne_zero t hr
  unfold mix
  refine Fintype.sum_of_injective e he _ _ (fun i hi => ?_) fun j => by rw [hon, hsum, hw]
  rw [hoff i hi]
  unfold Ideal.div
  rw [if_neg hne, zero_mul, zero_mul]

/-! ## Sums of real numbers -/

/-- A sum of real numbers is their real sum. -/
theorem sum_coe (f : ι → ℝ) : ∑ i, (f i : EReal) = ((∑ i, f i : ℝ) : EReal) := by
  classical
  induction (Finset.univ : Finset ι) using Finset.induction_on with
  | empty => simp
  | insert a s ha ih => rw [Finset.sum_insert ha, Finset.sum_insert ha, ih, EReal.coe_add]

/-- A sum of products of real numbers is real. -/
theorem real_dot (f g : ι → EReal) (hf : ∀ i, IsReal (f i)) (hg : ∀ i, IsReal (g i)) : IsReal (∑ i, f i * g i) := by
  choose a ha using hf
  choose b hb using hg
  refine ⟨∑ i, a i * b i, ?_⟩
  rw [← sum_coe]
  exact Finset.sum_congr rfl fun i _ => by rw [ha, hb, EReal.coe_mul]

/-- A product of real numbers is real. -/
theorem real_mul {x y : EReal} (hx : IsReal x) (hy : IsReal y) : IsReal (x * y) := by
  obtain ⟨a, rfl⟩ := hx
  obtain ⟨b, rfl⟩ := hy
  exact ⟨a * b, (EReal.coe_mul a b).symm⟩

/-- A real scale may be applied to one factor of every product of real numbers, or to their sum. -/
theorem dot_scale (f g : ι → EReal) (z : EReal) (hf : ∀ i, IsReal (f i)) (hg : ∀ i, IsReal (g i)) (hz : IsReal z) :
    ∑ i, f i * z * g i = (∑ i, f i * g i) * z := by
  choose a ha using hf
  choose b hb using hg
  obtain ⟨c, rfl⟩ := hz
  have h1 : ∑ i, f i * (c : EReal) * g i = ((∑ i, a i * c * b i : ℝ) : EReal) := by
    rw [← sum_coe]
    exact Finset.sum_congr rfl fun i _ => by rw [ha, hb, EReal.coe_mul, EReal.coe_mul]
  have h2 : ∑ i, f i * g i = ((∑ i, a i * b i : ℝ) : EReal) := by
    rw [← sum_coe]
    exact Finset.sum_congr rfl fun i _ => by rw [ha, hb, EReal.coe_mul]
  rw [h1, h2, ← EReal.coe_mul, Finset.sum_mul]
  exact congrArg _ (Finset.sum_congr rfl fun i _ => by ring)

end Cert.Value

end
-- ==== Proof.Value.Payloads.lean ====
/-
  What each of the kernel's computations leaves at an index.
-/
module

public import proofs.«01_k».proof.Proof.Value.Soft
public import proofs.«01_k».proof.Proof.Gen.KernelIdeal.Skeleton

@[expose] public section

set_option maxRecDepth 16384

noncomputable section

namespace Cert.Value

open Idealize.ShloMosaic
open Cert.KernelIdeal Cert.KernelIdeal.Gen

/-- The queries: the rows times the projection, scaled. -/
theorem pay6_apply (x : Vec Ideal S2x128x512 .f32) (w : Vec Ideal S512x256 .f32) (b : Fin 2) (i : Fin 128) (k : Fin 256) :
    k0_pay6 (F := Ideal) x w (ix3 b i k) = (∑ e : Fin 512, x (ix3 b i e) * w (ix2 e k)) * Ideal.ofBits .f32 0x3E000000#32 := by
  pointwise [k0_pay6]

/-- The result: the attention's rows times the output projection. -/
theorem pay2_apply (x : Vec Ideal S2x128x256 .f32) (w : Vec Ideal S256x512 .f32) (b : Fin 2) (i : Fin 128) (o : Fin 512) :
    k0_pay2 (F := Ideal) x w (ix3 b i o) = ∑ k : Fin 256, x (ix3 b i k) * w (ix2 k o) := by
  pointwise [k0_pay2]

/-- A block of keys or of values, as it is sent. -/
theorem pay3_apply (x : Vec Ideal S2x128x256 .f32) (b : Fin 2) (i : Fin 128) (k : Fin 256) :
    k0_pay3 (F := Ideal) x (ix5 0 0 b i k) = x (ix3 b i k) := by
  pointwise [k0_pay3]

/-- Minus infinity, as the maximum's starting value is written. -/
theorem ofBits_neg_inf : Ideal.ofBits .f32 0xFF800000#32 = ⊥ := by simp [Ideal.ofBits, Ideal.ieee]

/-- An attention tile: each query's scores against the keys of all sixteen slots, and the average of the values by them. -/
theorem pay10_apply (q : Vec Ideal S1x64x64 .bf16) (ks vs : Vec Ideal S16x1x1x64x64 .bf16) (r k : Fin 64) :
    k0_pay10 (F := Ideal) q ks vs (ix3 0 r k)
      = mix (fun j : Fin 1024 => ∑ d : Fin 64, q (ix3 0 r d) * ks (ix5 ⟨j / 64, by omega⟩ 0 0 ⟨j % 64, by omega⟩ d))
          (fun j : Fin 1024 => vs (ix5 ⟨j / 64, by omega⟩ 0 0 ⟨j % 64, by omega⟩ k)) := by
  unfold mix weight top
  pointwise [k0_pay10]
  rw [ofBits_neg_inf]

end Cert.Value

end
-- ==== Proof.Value.Attention.lean ====
/-
  The kernel's result at an index: averages of the sixteen slots' values by the queries' scores, projected.
-/
module

public import proofs.«01_k».proof.Proof.Value.Payloads
public import proofs.«01_k».proof.Proof.KernelIdeal.Local

@[expose] public section

set_option maxRecDepth 16384

noncomputable section

namespace Cert.Value

open Idealize.ShloMosaic
open Cert.KernelIdeal Cert.KernelIdeal.Gen Cert.KernelIdeal.Ring

/-- A tile's queries, read out of the queries' buffer. -/
theorem read_tile (g : Fin 16) (f : (cc0_scratch1 : Ref sig .tc).ty.Contents (Elt Ideal)) (i : S2x128x256.Idx) (r d : Fin 64)
    (h0 : tb g = (i 0).val) (h1 : 64 * tr g + r.val = (i 1).val) (h2 : 64 * th g + d.val = (i 2).val) :
    qM.view.readAt (Elt Ideal) (tileRect g).toLoadRect f (ix3 0 r d) = (f : S2x128x256.Idx → EReal) i := by
  show (f : S2x128x256.Idx → EReal) ((tileRect g).emb (ix3 0 r d)) = _
  refine congrArg (f : S2x128x256.Idx → EReal) (funext fun a => Fin.ext ((Rect.emb_apply (r := tileRect g) (ix3 0 r d) a).trans ?_))
  fin_cases a
  · show tb g + 1 * 0 = (i 0).val; omega
  · show 64 * tr g + 1 * r.val = (i 1).val; omega
  · show 64 * th g + 1 * d.val = (i 2).val; omega

/-- A tile's keys or values of all sixteen slots, read out of the slots. -/
theorem read_tiles (kv : Fin 2) (g : Fin 16) (f : (cc0_scratch0 : Ref sig .tc).ty.Contents (Elt Ideal)) (s : Fin 16) (i : S2x128x256.Idx) (r d : Fin 64)
    (h0 : tb g = (i 0).val) (h1 : 64 * tr g + r.val = (i 1).val) (h2 : 64 * th g + d.val = (i 2).val) :
    kvM.view.readAt (Elt Ideal) (tilesRect kv g).toLoadRect f (ix5 s 0 0 r d) = (f : S16x2x2x128x256.Idx → EReal) (ix5 s kv (i 0) (i 1) (i 2)) := by
  show (f : S16x2x2x128x256.Idx → EReal) ((tilesRect kv g).emb (ix5 s 0 0 r d)) = _
  refine congrArg (f : S16x2x2x128x256.Idx → EReal) (funext fun a => Fin.ext ((Rect.emb_apply (r := tilesRect kv g) (ix5 s 0 0 r d) a).trans ?_))
  fin_cases a
  · show 0 + 1 * s.val = s.val; omega
  · show kv.val + 1 * 0 = kv.val; omega
  · show tb g + 1 * 0 = (i 0).val; omega
  · show 64 * tr g + 1 * r.val = (i 1).val; omega
  · show 64 * th g + 1 * d.val = (i 2).val; omega

variable (A : Staged Ideal) (c : Dev nD)

/-- A slot's keys are the staged keys of the device they came from. -/
theorem slots_key (s : Fin 16) (b : Fin 2) (i : Fin 128) (k : Fin 256) :
    (slots A c : S16x2x2x128x256.Idx → EReal) (ix5 s 0 b i k) = A.key (source c s.val) (ix3 b i k) := by
  have e : ownIdx (ix5 s (0 : Fin 2) b i k) = ix5 0 0 b i k := funext fun a => by fin_cases a <;> rfl
  show k0_pay3 (F := Ideal) (A.key (source c s.val)) (ownIdx (ix5 s (0 : Fin 2) b i k)) = _
  rw [e, pay3_apply]

/-- A slot's values are the staged values of the device they came from. -/
theorem slots_val (s : Fin 16) (b : Fin 2) (i : Fin 128) (k : Fin 256) :
    (slots A c : S16x2x2x128x256.Idx → EReal) (ix5 s 1 b i k) = A.val (source c s.val) (ix3 b i k) := by
  have e : ownIdx (ix5 s (1 : Fin 2) b i k) = ix5 0 0 b i k := funext fun a => by fin_cases a <;> rfl
  show k0_pay3 (F := Ideal) (A.val (source c s.val)) (ownIdx (ix5 s (1 : Fin 2) b i k)) = _
  rw [e, pay3_apply]

/-- The scores of query `i` of lane `k`'s head against the keys of the sixteen slots. -/
def slotScores (b : Fin 2) (i : Fin 128) (k : Fin 256) : Fin 1024 → EReal := fun j =>
  ∑ d : Fin 64, ((∑ e : Fin 512, A.x c (ix3 b i e) * A.wq c (ix2 e ⟨64 * (k / 64) + d, by omega⟩)) * Ideal.ofBits .f32 0x3E000000#32)
    * A.key (source c (j / 64)) (ix3 b ⟨64 * (i / 64) + j % 64, by omega⟩ ⟨64 * (k / 64) + d, by omega⟩)

/-- The values of lane `k` in the sixteen slots. -/
def slotValues (b : Fin 2) (i : Fin 128) (k : Fin 256) : Fin 1024 → EReal := fun j =>
  A.val (source c (j / 64)) (ix3 b ⟨64 * (i / 64) + j % 64, by omega⟩ k)

/-- A tile's result at an index. -/
theorem tileOut_apply (g : Fin 16) (b : Fin 2) (i : Fin 128) (k : Fin 256) (hv : g.val = 8 * b.val + 2 * (k.val / 64) + i.val / 64) :
    tileOut A c g (ix3 0 ⟨i.val % 64, by omega⟩ ⟨k.val % 64, by omega⟩) = mix (slotScores A c b i k) (slotValues A c b i k) := by
  have hb := b.isLt
  have hi := i.isLt
  have hk := k.isLt
  have hb' : tb g = b.val := by show g.val / 8 = _; omega
  have hh' : th g = k.val / 64 := by show g.val / 2 % 4 = _; omega
  have hr' : tr g = i.val / 64 := by show g.val % 2 = _; omega
  unfold tileOut
  rw [pay10_apply]
  refine congrArg₂ mix (funext fun j => Finset.sum_congr rfl fun d _ => ?_) (funext fun j => ?_)
  · refine congrArg₂ (· * ·)
      ((read_tile g _ (ix3 b i ⟨64 * (k.val / 64) + d.val, by omega⟩) _ _ hb' ?_ ?_).trans (pay6_apply _ _ _ _ _))
      ((read_tiles 0 g _ _ (ix3 b ⟨64 * (i.val / 64) + j.val % 64, by omega⟩ ⟨64 * (k.val / 64) + d.val, by omega⟩) _ _ hb' ?_ ?_).trans
        (slots_key A c _ _ _ _))
    · rw [hr']; show 64 * (i.val / 64) + i.val % 64 = i.val; omega
    · rw [hh']; rfl
    · rw [hr']; rfl
    · rw [hh']; rfl
  · refine (read_tiles 1 g _ _ (ix3 b ⟨64 * (i.val / 64) + j.val % 64, by omega⟩ k) _ _ hb' ?_ ?_).trans (slots_val A c _ _ _ _)
    · rw [hr']; rfl
    · rw [hh']; show 64 * (k.val / 64) + k.val % 64 = k.val; omega

/-- The attention's result at an index. -/
theorem attended_apply (b : Fin 2) (i : Fin 128) (k : Fin 256) :
    (attended A c : S2x128x256.Idx → EReal) (ix3 b i k) = mix (slotScores A c b i k) (slotValues A c b i k) := by
  have hb := b.isLt
  have hi := i.isLt
  have hk := k.isLt
  have hg : tileAtIdx (ix3 b i k) = 8 * b.val + 2 * (k.val / 64) + i.val / 64 := rfl
  have hv : (tileOf (tileAtIdx (ix3 b i k))).val = 8 * b.val + 2 * (k.val / 64) + i.val / 64 := by
    show tileAtIdx (ix3 b i k) % 16 = _
    rw [hg]; omega
  have ht : inTile (ix3 b i k) = ix3 0 ⟨i.val % 64, by omega⟩ ⟨k.val % 64, by omega⟩ := funext fun a => by fin_cases a <;> rfl
  exact (congrArg (tileOut A c (tileOf (tileAtIdx (ix3 b i k)))) ht).trans (tileOut_apply A c _ b i k hv)

/-- The kernel's result at an index. -/
theorem projected_apply (b : Fin 2) (i : Fin 128) (o : Fin 512) :
    (projected A c : S2x128x512.Idx → EReal) (ix3 b i o) = ∑ k : Fin 256, mix (slotScores A c b i k) (slotValues A c b i k) * A.wo c (ix2 k o) := by
  unfold projected
  refine (pay2_apply _ _ b i o).trans (Finset.sum_congr rfl fun k _ => congrArg (· * A.wo c (ix2 k o)) (attended_apply A c b i k))

end Cert.Value

end
-- ==== Proof.Value.Terms.lean ====
/-
  The reference's result as a composition of named arrays: the block each position lies in, the mask, the scores, their
  weights, the attention and its projection.
-/
module

public import proofs.«01_k».proof.Proof.Gen.ReferenceIdeal.Run
public import Idealize.ShloMosaic.PureOps.Ideal

@[expose] public section

set_option maxRecDepth 16384

noncomputable section

namespace Cert.Value.Reference

open Cert.ReferenceIdeal Cert.ReferenceIdeal.Gen
open Idealize.ShloMosaic Idealize.ShloMosaic.TcCoe

/-- The positions. -/
def pos : IVec S4096 32 := iotaInDim S4096 32 0

/-- The block length, for every position. -/
def len : IVec S4096 32 := broadcastInDim S4096 ![] bcast_S_S4096 (id (constantI S_ 32 64#32))

/-- The block each position lies in: its position divided by the block length, rounded down. -/
def blk : IVec S4096 32 :=
  select (andi (cmpi .ne (signi pos) (broadcastInDim S4096 ![] bcast_S_S4096 (signi (id (constantI S_ 32 64#32)))))
      (cmpi .ne (Host.remsi pos len) (broadcastInDim S4096 ![] bcast_S_S4096 (constantI S_ 32 0#32))))
    (subi (Host.divsi pos len) (broadcastInDim S4096 ![] bcast_S_S4096 (constantI S_ 32 1#32)))
    (Host.divsi pos len)

/-- The number of groups, one if it were zero. -/
def groups : IVec S_ 32 := select (cmpi .eq (id (constantI S_ 32 4#32)) (constantI S_ 32 0#32)) (constantI S_ 32 1#32) (id (constantI S_ 32 4#32))

/-- The keys' blocks, in a row. -/
def keyBlk : IVec S1x4096 32 := broadcastInDim S1x4096 ![1] bcast_S4096_S1x4096_1 blk

/-- The queries' blocks, in a column. -/
def queryBlk : IVec S4096x1 32 := broadcastInDim S4096x1 ![0] bcast_S4096_S4096x1_0 blk

/-- The keys' groups: the remainder of their blocks. -/
def keyGroup : IVec S1x4096 32 :=
  select (andi (cmpi .ne (cmpi .slt (Host.remsi keyBlk (broadcastInDim S1x4096 ![] bcast_S_S1x4096 groups)) (broadcastInDim S1x4096 ![] bcast_S_S1x4096 (constantI S_ 32 0#32)))
        (broadcastInDim S1x4096 ![] bcast_S_S1x4096 (cmpi .slt groups (constantI S_ 32 0#32))))
      (cmpi .ne (Host.remsi keyBlk (broadcastInDim S1x4096 ![] bcast_S_S1x4096 groups)) (broadcastInDim S1x4096 ![] bcast_S_S1x4096 (constantI S_ 32 0#32))))
    (addi (Host.remsi keyBlk (broadcastInDim S1x4096 ![] bcast_S_S1x4096 groups)) (broadcastInDim S1x4096 ![] bcast_S_S1x4096 groups))
    (Host.remsi keyBlk (broadcastInDim S1x4096 ![] bcast_S_S1x4096 groups))

/-- The queries' groups. -/
def queryGroup : IVec S4096x1 32 :=
  select (andi (cmpi .ne (cmpi .slt (Host.remsi queryBlk (broadcastInDim S4096x1 ![] bcast_S_S4096x1 groups)) (broadcastInDim S4096x1 ![] bcast_S_S4096x1 (constantI S_ 32 0#32)))
        (broadcastInDim S4096x1 ![] bcast_S_S4096x1 (cmpi .slt groups (constantI S_ 32 0#32))))
      (cmpi .ne (Host.remsi queryBlk (broadcastInDim S4096x1 ![] bcast_S_S4096x1 groups)) (broadcastInDim S4096x1 ![] bcast_S_S4096x1 (constantI S_ 32 0#32))))
    (addi (Host.remsi queryBlk (broadcastInDim S4096x1 ![] bcast_S_S4096x1 groups)) (broadcastInDim S4096x1 ![] bcast_S_S4096x1 groups))
    (Host.remsi queryBlk (broadcastInDim S4096x1 ![] bcast_S_S4096x1 groups))

/-- Which query sees which key: the same block, or the same group. -/
def mask : IVec S4096x4096 1 :=
  ori (cmpi .eq (broadcastInDim S4096x4096 ![0, 1] bcast_S4096x1_S4096x4096_0_1 queryBlk) (broadcastInDim S4096x4096 ![0, 1] bcast_S1x4096_S4096x4096_0_1 keyBlk))
    (cmpi .eq (broadcastInDim S4096x4096 ![0, 1] bcast_S1x4096_S4096x4096_0_1 keyGroup) (broadcastInDim S4096x4096 ![0, 1] bcast_S4096x1_S4096x4096_0_1 queryGroup))

/-- Whether a query sees any key. -/
def keeps : IVec S4096 1 := Host.reduce IntOp.ori mask (constantI S_ 1 0#1) reducesTo_S4096x4096_S4096_d1 h_S_

/-- The queries. -/
def queries (x : FVec Ideal S2x4096x512 .f32) (wq : FVec Ideal S512x256 .f32) : FVec Ideal S2x4096x4x64 .f32 :=
  shapeCast _ (Host.dotGeneral dot_S2x4096x512_S512x256_S2x4096x256_2_0_01_1_n_n none x wq) shapeCasts_S2x4096x256_S2x4096x4x64

/-- The scores under a mask, minus infinity where the query does not see the key. -/
def scores (mask : IVec S4096x4096 1) (q k : FVec Ideal S2x4096x4x64 .f32) : FVec Ideal S2x4x4096x4096 .f32 :=
  select (broadcastInDim S2x4x4096x4096 ![0, 1, 2, 3] bcast_S1x1x4096x4096_S2x4x4096x4096_0_1_2_3 (broadcastInDim S1x1x4096x4096 ![2, 3] bcast_S4096x4096_S1x1x4096x4096_2_3 mask))
    (mulf (Host.dotGeneral dot_S2x4096x4x64_S2x4096x4x64_S2x4x4096x4096_3_3_1_1_02_02 none q k)
      (broadcastInDim S2x4x4096x4096 ![] bcast_S_S2x4x4096x4096 (constant S_ .f32 0x3E000000#32)))
    (broadcastInDim S2x4x4096x4096 ![] bcast_S_S2x4x4096x4096 (id (constant S_ .f32 0xFF800000#32)))

/-- The weights before they are normalised. -/
def weights (s : FVec Ideal S2x4x4096x4096 .f32) : FVec Ideal S2x4x4096x4096 .f32 :=
  Host.exp (subf s (broadcastInDim S2x4x4096x4096 ![0, 1, 2, 3] bcast_S2x4x4096x1_S2x4x4096x4096_0_1_2_3
    (broadcastInDim S2x4x4096x1 ![0, 1, 2] bcast_S2x4x4096_S2x4x4096x1_0_1_2
      (Host.reduce FloatOps.maximumf s (constant S_ .f32 0xFF800000#32) reducesTo_S2x4x4096x4096_S2x4x4096_d3 h_S_))))

/-- The normalised weights, zero for a query that `keeps` says sees no key. -/
def normalised (keeps : IVec S4096 1) (e : FVec Ideal S2x4x4096x4096 .f32) : FVec Ideal S2x4x4096x4096 .f32 :=
  select (broadcastInDim S2x4x4096x4096 ![0, 1, 2, 3] bcast_S1x1x4096x1_S2x4x4096x4096_0_1_2_3 (broadcastInDim S1x1x4096x1 ![2] bcast_S4096_S1x1x4096x1_2 keeps))
    (Host.divf e (broadcastInDim S2x4x4096x4096 ![0, 1, 2, 3] bcast_S2x4x4096x1_S2x4x4096x4096_0_1_2_3
      (select (broadcastInDim S2x4x4096x1 ![0, 1, 2, 3] bcast_S1x1x4096x1_S2x4x4096x1_0_1_2_3 (broadcastInDim S1x1x4096x1 ![2] bcast_S4096_S1x1x4096x1_2 keeps))
        (broadcastInDim S2x4x4096x1 ![0, 1, 2] bcast_S2x4x4096_S2x4x4096x1_0_1_2
          (Host.reduceAdd e (constant S_ .f32 0x00000000#32) reducesTo_S2x4x4096x4096_S2x4x4096_d3 h_S_))
        (broadcastInDim S2x4x4096x1 ![] bcast_S_S2x4x4096x1 (id (constant S_ .f32 0x3F800000#32))))))
    (broadcastInDim S2x4x4096x4096 ![] bcast_S_S2x4x4096x4096 (id (constant S_ .f32 0x00000000#32)))

/-- The attention's rows times the output projection. -/
def projection (v : FVec Ideal S2x4096x4x64 .f32) (p : FVec Ideal S2x4x4096x4096 .f32) (wo : FVec Ideal S256x512 .f32) : FVec Ideal S2x4096x512 .f32 :=
  Host.dotGeneral dot_S2x4096x256_S256x512_S2x4096x512_2_0_01_1_n_n none
    (shapeCast _ (transpose S2x4096x4x64 [0, 3, 1, 2]
      (Host.dotGeneral dot_S2x4096x4x64_S2x4x4096x4096_S2x4x64x4096_1_3_3_2_02_01 none v p) transposes_S2x4x64x4096_S2x4096x4x64_0_3_1_2) shapeCasts_S2x4096x4x64_S2x4096x256) wo

/-- The whole result from the five whole arrays. -/
def whole (x : FVec Ideal S2x4096x512 .f32) (wq : FVec Ideal S512x256 .f32) (k v : FVec Ideal S2x4096x4x64 .f32) (wo : FVec Ideal S256x512 .f32) :
    FVec Ideal S2x4096x512 .f32 :=
  projection v (normalised keeps (weights (scores mask (queries x wq) k))) wo

set_option maxHeartbeats 4000000 in
/-- The reference's run leaves this composition in its result. -/
theorem result_eq (m : (ℓ : Loc nD τ sig) → Buf (Elt Ideal) ℓ) (c : Dev nD) :
    Cert.ReferenceIdeal.Value.res_out0 m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := rfl

end Cert.Value.Reference

end
-- ==== Proof.Value.Mask.lean ====
/-
  Which query of the reference sees which key, in numbers.
-/
module

public import proofs.«01_k».proof.Proof.Value.Terms
public import Idealize.ShloMosaic.Lib.Pointwise
public import Idealize.ShloMosaic.Lib.Routing.OpsOrder
public import Idealize.ShloMosaic.Lib.Routing.Words
public import Idealize.ShloMosaic.Lib.Tactic.WordOmega

@[expose] public section

set_option maxRecDepth 16384

noncomputable section

namespace Cert.Value.Reference

open Cert.ReferenceIdeal Cert.ReferenceIdeal.Gen
open Idealize.ShloMosaic

/-- There are four groups. -/
theorem groups_apply : groups ix0 = 4#32 := by
  pointwise [groups, id_eq]
  decide

/-- The word of a positive number below 2^31 has sign one. -/
theorem sign_word {n : Nat} (h0 : 0 < n) (hn : n < 2 ^ 31) :
    (if BitVec.ofNat 32 n = 0 then (0 : BitVec 32) else if (BitVec.ofNat 32 n).msb = true then -1 else 1) = 1 := by
  have hm : n % 2 ^ 32 = n := Nat.mod_eq_of_lt (by omega)
  rw [if_neg, if_neg]
  · rw [BitVec.msb_eq_decide, BitVec.toNat_ofNat, hm]; simp only [decide_eq_true_eq]; omega
  · intro h
    have := congrArg BitVec.toNat h
    rw [BitVec.toNat_ofNat, hm] at this
    simp at this; omega

/-- A choice by the conjunction of two bits one of which is zero. -/
theorem select_andi_zero {α : Type} (a b : BitVec 1) (x y : α) (h : a = 0#1 ∨ b = 0#1) : Scalar.select (IntOp.andi a b) x y = y := by
  have hz : IntOp.andi a b = 0#1 := by
    rcases h with h | h
    · subst h; revert b; decide
    · subst h; revert a; decide
  rw [hz]; rfl

/-- A position's block is its number divided by 64. -/
theorem blk_apply (p : Fin 4096) : blk (ix1 p) = BitVec.ofNat 32 (p.val / 64) := by
  have hp := p.isLt
  have hd := Routing.divsi_word .host (a := p.val) (b := 64) (by omega) (by omega) (by omega)
  have hr := Routing.remsi_word .host (a := p.val) (b := 64) (by omega) (by omega) (by omega)
  pointwise [blk, pos, len, id_eq]
  rw [select_andi_zero, hd]
  rcases Nat.eq_zero_or_pos p.val with h | h
  · right; rw [hr, h]; decide
  · left; exact (congrArg (fun w => IntOp.cmpi .ne w _) (sign_word h (by omega))).trans (by decide)

/-- A key's group is its block modulo 4. -/
theorem keyGroup_apply (p : Fin 4096) : keyGroup (ix2 0 p) = BitVec.ofNat 32 (p.val / 64 % 4) := by
  have hp := p.isLt
  have hr := Routing.remsi_word .host (a := p.val / 64) (b := 4) (by omega) (by omega) (by omega)
  have h4 := Nat.mod_lt (p.val / 64) (show 0 < 4 by decide)
  pointwise [keyGroup, keyBlk, groups_apply, blk_apply]
  rw [hr]
  generalize p.val / 64 % 4 = r at h4
  interval_cases r <;> decide

/-- A query's group is its block modulo 4. -/
theorem queryGroup_apply (p : Fin 4096) : queryGroup (ix2 p 0) = BitVec.ofNat 32 (p.val / 64 % 4) := by
  have hp := p.isLt
  have hr := Routing.remsi_word .host (a := p.val / 64) (b := 4) (by omega) (by omega) (by omega)
  have h4 := Nat.mod_lt (p.val / 64) (show 0 < 4 by decide)
  pointwise [queryGroup, queryBlk, groups_apply, blk_apply]
  rw [hr]
  generalize p.val / 64 % 4 = r at h4
  interval_cases r <;> decide

/-- Query `p` sees key `q`: they lie in one block, or their blocks agree modulo 4. -/
def Sees (p q : Fin 4096) : Prop := p.val / 64 = q.val / 64 ∨ q.val / 64 % 4 = p.val / 64 % 4

instance (p q : Fin 4096) : Decidable (Sees p q) := inferInstanceAs (Decidable (_ ∨ _))

/-- The words of two numbers below 2^32 are equal exactly when the numbers are. -/
theorem cmpi_word {a b : Nat} (ha : a < 2 ^ 32) (hb : b < 2 ^ 32) :
    IntOp.cmpi .eq (BitVec.ofNat 32 a) (BitVec.ofNat 32 b) = BitVec.ofBool (decide (a = b)) := by
  unfold IntOp.cmpi
  have : BitVec.ofNat 32 a = BitVec.ofNat 32 b ↔ a = b := by
    constructor
    · intro h
      have := congrArg BitVec.toNat h
      rw [BitVec.toNat_ofNat, BitVec.toNat_ofNat, Nat.mod_eq_of_lt ha, Nat.mod_eq_of_lt hb] at this
      exact this
    · rintro rfl; rfl
  by_cases h : a = b
  · subst h; simp
  · rw [decide_eq_false h]
    exact congrArg BitVec.ofBool (beq_eq_false_iff_ne.2 fun e => h (this.1 e))

/-- The mask is one exactly where the query sees the key. -/
theorem mask_apply (p q : Fin 4096) : mask (ix2 p q) = BitVec.ofBool (decide (Sees p q)) := by
  have hp := p.isLt
  have hq := q.isLt
  pointwise [mask, queryBlk, keyBlk, blk_apply, keyGroup_apply, queryGroup_apply]
  rw [cmpi_word (by omega) (by omega), cmpi_word (by omega) (by omega)]
  unfold Sees
  by_cases h1 : p.val / 64 = q.val / 64 <;> by_cases h2 : q.val / 64 % 4 = p.val / 64 % 4 <;> simp only [h1, h2] <;> decide

/-- Every query sees a key: itself. -/
theorem keeps_apply (p : Fin 4096) : keeps (ix1 p) = 1#1 := by
  pointwise [keeps]
  exact (Routing.fold_ori _ _).2 ⟨p, Finset.mem_univ _, by rw [mask_apply, decide_eq_true (show Sees p p from Or.inl rfl)]; rfl⟩

end Cert.Value.Reference

end
-- ==== Proof.Value.Reading.lean ====
/-
  The reference's result at an index: averages of the values by the masked scores, projected.
-/
module

public import proofs.«01_k».proof.Proof.Value.Soft
public import proofs.«01_k».proof.Proof.Value.Mask

@[expose] public section

set_option maxRecDepth 16384

noncomputable section

namespace Cert.Value.Reference

open Cert.ReferenceIdeal Cert.ReferenceIdeal.Gen
open Idealize.ShloMosaic

/-- Minus infinity, as the mask's filler and the maximum's starting value are written. -/
theorem ofBits_neg_inf : Ideal.ofBits .f32 0xFF800000#32 = ⊥ := by simp [Ideal.ofBits, Ideal.ieee]

/-- The queries at an index. -/
theorem queries_apply (x : FVec Ideal S2x4096x512 .f32) (wq : FVec Ideal S512x256 .f32) (b : Fin 2) (p : Fin 4096) (h : Fin 4) (d : Fin 64) :
    queries x wq (ix4 b p h d) = ∑ e : Fin 512, x (ix3 b p e) * wq (ix2 e ⟨h.val * 64 + d.val, by omega⟩) := by
  pointwise [queries]

/-- The scores at an index, under a mask that is one where the query sees the key. -/
theorem scores_apply (mk : IVec S4096x4096 1) (hm : ∀ p r, mk (ix2 p r) = BitVec.ofBool (decide (Sees p r)))
    (q k : FVec Ideal S2x4096x4x64 .f32) (b : Fin 2) (h : Fin 4) (p r : Fin 4096) :
    scores mk q k (ix4 b h p r)
      = if Sees p r then (∑ d : Fin 64, q (ix4 b p h d) * k (ix4 b r h d)) * Ideal.ofBits .f32 0x3E000000#32 else ⊥ := by
  pointwise [scores, id_eq]
  rw [ofBits_neg_inf, hm]
  by_cases hs : Sees p r
  · rw [if_pos hs, decide_eq_true hs]; rfl
  · rw [if_neg hs, decide_eq_false hs]; rfl

/-- The weights at an index. -/
theorem weights_apply (s : FVec Ideal S2x4x4096x4096 .f32) (b : Fin 2) (h : Fin 4) (p r : Fin 4096) :
    weights s (ix4 b h p r) = weight (fun r : Fin 4096 => s (ix4 b h p r)) r := by
  unfold weight top
  pointwise [weights]
  rw [ofBits_neg_inf]

/-- The normalised weights at an index, where every query sees a key. -/
theorem normalised_apply (kp : IVec S4096 1) (hk : ∀ p, kp (ix1 p) = 1#1) (e : FVec Ideal S2x4x4096x4096 .f32)
    (b : Fin 2) (h : Fin 4) (p r : Fin 4096) :
    normalised kp e (ix4 b h p r) = Ideal.div (e (ix4 b h p r)) (∑ r' : Fin 4096, e (ix4 b h p r')) := by
  pointwise [normalised, id_eq]
  have h1 : ∀ a c : EReal, Scalar.select 1#1 a c = a := fun _ _ => rfl
  rw [hk, h1, h1]

/-- The projection at an index. -/
theorem projection_apply (v : FVec Ideal S2x4096x4x64 .f32) (p : FVec Ideal S2x4x4096x4096 .f32) (wo : FVec Ideal S256x512 .f32)
    (b : Fin 2) (i : Fin 4096) (o : Fin 512) :
    projection v p wo (ix3 b i o)
      = ∑ k : Fin 256, (∑ r : Fin 4096, v (ix4 b r ⟨k / 64, by omega⟩ ⟨k % 64, by omega⟩) * p (ix4 b ⟨k / 64, by omega⟩ i r)) * wo (ix2 k o) := by
  pointwise [projection]

/-- The scores of query `i` of head `h` against all keys, minus infinity at those it does not see. -/
def rowScores (x : FVec Ideal S2x4096x512 .f32) (wq : FVec Ideal S512x256 .f32) (k : FVec Ideal S2x4096x4x64 .f32)
    (b : Fin 2) (h : Fin 4) (i : Fin 4096) : Fin 4096 → EReal := fun r =>
  if Sees i r then (∑ d : Fin 64, (∑ e : Fin 512, x (ix3 b i e) * wq (ix2 e ⟨h.val * 64 + d.val, by omega⟩)) * k (ix4 b r h d))
    * Ideal.ofBits .f32 0x3E000000#32 else ⊥

/-- The reference's result at an index. -/
theorem whole_apply (x : FVec Ideal S2x4096x512 .f32) (wq : FVec Ideal S512x256 .f32) (k v : FVec Ideal S2x4096x4x64 .f32)
    (wo : FVec Ideal S256x512 .f32) (b : Fin 2) (i : Fin 4096) (o : Fin 512) :
    whole x wq k v wo (ix3 b i o)
      = ∑ c : Fin 256, mix (rowScores x wq k b ⟨c / 64, by omega⟩ i) (fun r => v (ix4 b r ⟨c / 64, by omega⟩ ⟨c % 64, by omega⟩)) * wo (ix2 c o) := by
  have hs : ∀ h r, scores mask (queries x wq) k (ix4 b h i r) = rowScores x wq k b h i r := by
    intro h r
    rw [scores_apply mask mask_apply]
    unfold rowScores
    simp only [queries_apply]
  have hw : ∀ h r, weights (scores mask (queries x wq) k) (ix4 b h i r) = weight (rowScores x wq k b h i) r := by
    intro h r
    rw [weights_apply]
    exact congrArg (fun s => weight s r) (funext (hs h))
  unfold whole
  rw [projection_apply]
  refine Finset.sum_congr rfl fun c _ => congrArg (· * wo (ix2 c o)) ?_
  unfold mix
  refine Finset.sum_congr rfl fun r _ => ?_
  rw [normalised_apply keeps keeps_apply, mul_comm, hw]
  simp only [hw]

end Cert.Value.Reference

end
-- ==== Proof.Value.Shares.lean ====
/-
  The kernel's result on a device is its share of the reference's: the sixteen slots hold exactly the keys the device's
  queries see.
-/
module

public import proofs.«01_k».proof.Proof.Value.Attention
public import proofs.«01_k».proof.Proof.Value.Reading

@[expose] public section

set_option maxRecDepth 16384

noncomputable section

namespace Cert.Value

open Idealize.ShloMosaic
open Cert.KernelIdeal Cert.KernelIdeal.Ring
open Cert.Value.Reference (Sees rowScores whole whole_apply)

/-! ## Which device's block a slot holds, and where its keys stand in the whole array -/

/-- A step to the left in the ring is two places down, by number. -/
theorem left_val : ∀ d : Dev nD, (left d).val = (d.val + 30) % 32 := by decide

/-- Slot `s` holds the block of the device `2s` places to the left. -/
theorem source_val (c : Dev nD) (s : Nat) : (source c s).val = (c.val + 30 * s) % 32 := by
  have hc : c.val < 32 := c.isLt
  induction s with
  | zero => show c.val = _; omega
  | succ s ih =>
    have e : source c (s + 1) = left (source c s) := Function.iterate_succ_apply' left s c
    rw [e, left_val, ih]; omega

/-- A row of a device's block, in the whole array. -/
def globalRow (c : Dev nD) (i : Fin 128) : Fin 4096 := ⟨128 * c.val + i.val, by have : c.val < 32 := c.isLt; omega⟩

/-- The position of a slot's key in the whole array. -/
def keyRow (c : Dev nD) (i : Fin 128) (j : Fin 1024) : Fin 4096 := globalRow (source c (j / 64)) ⟨64 * (i / 64) + j % 64, by omega⟩

theorem keyRow_val (c : Dev nD) (i : Fin 128) (j : Fin 1024) :
    (keyRow c i j).val = 128 * ((c.val + 30 * (j.val / 64)) % 32) + (64 * (i.val / 64) + j.val % 64) := by
  show 128 * (source c (j.val / 64)).val + _ = _
  rw [source_val]

/-- No key is held twice. -/
theorem keyRow_injective (c : Dev nD) (i : Fin 128) : Function.Injective (keyRow c i) := by
  intro j j' h
  have hv := congrArg Fin.val h
  rw [keyRow_val, keyRow_val] at hv
  have hj := j.isLt
  have hj' := j'.isLt
  exact Fin.ext (by omega)

/-- Every key held is seen. -/
theorem sees_keyRow (c : Dev nD) (i : Fin 128) (j : Fin 1024) : Sees (globalRow c i) (keyRow c i j) := by
  have hi := i.isLt
  have hj := j.isLt
  right
  rw [keyRow_val]
  show _ = (128 * c.val + i.val) / 64 % 4
  omega

/-- Every key seen is held. -/
theorem exists_keyRow (c : Dev nD) (i : Fin 128) (r : Fin 4096) (h : Sees (globalRow c i) r) : r ∈ Set.range (keyRow c i) := by
  have hc : c.val < 32 := c.isLt
  have hi := i.isLt
  have hr := r.isLt
  have h4 : r.val / 64 % 4 = (128 * c.val + i.val) / 64 % 4 := by
    rcases h with h | h
    · have h' : (128 * c.val + i.val) / 64 = r.val / 64 := h
      rw [h']
    · exact h
  refine ⟨⟨64 * ((c.val + 32 - r.val / 128) / 2 % 16) + r.val % 64, by omega⟩, Fin.ext ?_⟩
  rw [keyRow_val]
  show 128 * ((c.val + 30 * ((64 * ((c.val + 32 - r.val / 128) / 2 % 16) + r.val % 64) / 64)) % 32) + (64 * (i.val / 64) + (64 * ((c.val + 32 - r.val / 128) / 2 % 16) + r.val % 64) % 64) = r.val
  omega

/-! ## The two results -/

/-- What the devices stage is their share of the whole arrays. -/
structure Shares (A : Staged Ideal) (X : FVec Ideal Cert.ReferenceIdeal.S2x4096x512 .f32) (WQ : FVec Ideal Cert.ReferenceIdeal.S512x256 .f32)
    (K V : FVec Ideal Cert.ReferenceIdeal.S2x4096x4x64 .f32) (WO : FVec Ideal Cert.ReferenceIdeal.S256x512 .f32) : Prop where
  x : ∀ c b i e, A.x c (ix3 b i e) = X (ix3 b (globalRow c i) e)
  wq : ∀ c e k, A.wq c (ix2 e k) = WQ (ix2 e k)
  key : ∀ c b i (k : Fin 256), A.key c (ix3 b i k) = K (ix4 b (globalRow c i) ⟨k / 64, by omega⟩ ⟨k % 64, by omega⟩)
  val : ∀ c b i (k : Fin 256), A.val c (ix3 b i k) = V (ix4 b (globalRow c i) ⟨k / 64, by omega⟩ ⟨k % 64, by omega⟩)
  wo : ∀ c k o, A.wo c (ix2 k o) = WO (ix2 k o)

/-- The scores' scale is a real number. -/
theorem isReal_scale : IsReal (Ideal.ofBits .f32 0x3E000000#32) := by
  simp only [Ideal.ofBits, Ideal.ieee]
  rw [if_neg (by decide), if_neg (by decide)]
  exact ⟨_, rfl⟩

variable {A : Staged Ideal} {X : FVec Ideal Cert.ReferenceIdeal.S2x4096x512 .f32} {WQ : FVec Ideal Cert.ReferenceIdeal.S512x256 .f32}
  {K V : FVec Ideal Cert.ReferenceIdeal.S2x4096x4x64 .f32} {WO : FVec Ideal Cert.ReferenceIdeal.S256x512 .f32} (H : Shares A X WQ K V WO)
  (hX : ∀ b p e, IsReal (X (ix3 b p e))) (hW : ∀ e k, IsReal (WQ (ix2 e k))) (hK : ∀ b p h d, IsReal (K (ix4 b p h d)))

include H hX hW hK

/-- A slot's score is the reference's score at its key's position. -/
theorem slotScores_eq (c : Dev nD) (b : Fin 2) (i : Fin 128) (k : Fin 256) (j : Fin 1024) :
    slotScores A c b i k j = rowScores X WQ K b ⟨k / 64, by omega⟩ (globalRow c i) (keyRow c i j) := by
  unfold slotScores rowScores
  rw [if_pos (sees_keyRow c i j),
    ← dot_scale _ _ _ (fun d => real_dot _ _ (fun e => hX _ _ _) fun e => hW _ _) (fun d => hK _ _ _ _) isReal_scale]
  refine Finset.sum_congr rfl fun d _ => congrArg₂ (· * ·) (congrArg (· * Ideal.ofBits .f32 0x3E000000#32) (Finset.sum_congr rfl fun e _ => ?_)) ?_
  · rw [H.x, H.wq]
    refine congrArg (fun q => X (ix3 b (globalRow c i) e) * WQ (ix2 e q)) (Fin.ext ?_)
    show 64 * (k.val / 64) + d.val = k.val / 64 * 64 + d.val
    omega
  · rw [H.key]
    refine congrArg₂ (fun h q => K (ix4 b (keyRow c i j) h q)) (Fin.ext ?_) (Fin.ext ?_)
    · show (64 * (k.val / 64) + d.val) / 64 = k.val / 64; omega
    · show (64 * (k.val / 64) + d.val) % 64 = d.val; omega

/-- The scores are real numbers. -/
theorem isReal_slotScores (c : Dev nD) (b : Fin 2) (i : Fin 128) (k : Fin 256) (j : Fin 1024) : IsReal (slotScores A c b i k j) := by
  rw [slotScores_eq H hX hW hK]
  unfold rowScores
  rw [if_pos (sees_keyRow c i j)]
  exact real_mul (real_dot _ _ (fun d => real_dot _ _ (fun e => hX _ _ _) fun e => hW _ _) fun d => hK _ _ _ _) isReal_scale

/-- The kernel's average over the sixteen slots is the reference's over all keys. -/
theorem mix_eq (c : Dev nD) (b : Fin 2) (i : Fin 128) (k : Fin 256) :
    mix (slotScores A c b i k) (slotValues A c b i k)
      = mix (rowScores X WQ K b ⟨k / 64, by omega⟩ (globalRow c i)) (fun r => V (ix4 b r ⟨k / 64, by omega⟩ ⟨k % 64, by omega⟩)) := by
  haveI : Nonempty (Fin 1024) := ⟨0⟩
  refine mix_restrict (keyRow c i) (keyRow_injective c i) _ _ _ _ (slotScores_eq H hX hW hK c b i k) (fun j => ?_) (fun r hr => ?_)
    (isReal_slotScores H hX hW hK c b i k)
  · exact H.val _ _ _ _
  · unfold rowScores
    exact if_neg fun h => hr (exists_keyRow c i r h)

/-- The kernel's result at an index is the reference's at the device's row. -/
theorem projected_eq (c : Dev nD) (b : Fin 2) (i : Fin 128) (o : Fin 512) :
    (projected A c : S2x128x512.Idx → EReal) (ix3 b i o) = whole X WQ K V WO (ix3 b (globalRow c i) o) := by
  refine (projected_apply A c b i o).trans (Eq.trans ?_ (whole_apply X WQ K V WO b (globalRow c i) o).symm)
  exact Finset.sum_congr (M := EReal) rfl fun k _ => congrArg₂ (α := EReal) (β := EReal) (· * ·) (mix_eq H hX hW hK c b i k) (H.wo c k o)

end Cert.Value

end
-- ==== Proof.Value.Inputs.lean ====
/-
  What the claim supposes of the devices' arguments, read at an index: each device's are its blocks of the whole arrays, and
  those the scores are made of are real numbers.
-/
module

public import proofs.«01_k».proof.Defs
public import proofs.«01_k».proof.Proof.KernelIdeal.Result
public import proofs.«01_k».proof.Proof.Value.Shares
public import Idealize.ShloMosaic.Lib.LayoutAt
public import Idealize.ShloMosaic.Lib.Pointwise

@[expose] public section

noncomputable section

namespace Cert.Value

open Idealize.ShloMosaic
open Cert.KernelIdeal Cert.KernelIdeal.Ring

/-! ## The precondition -/

/-- A number whose magnitude is below infinity is real. -/
theorem isReal_of_abs_lt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  induction x using EReal.rec with
  | bot => simp [Ideal.cmp] at h'
  | top => simp [Ideal.cmp] at h'
  | coe r => exact ⟨r, rfl⟩

section Pre

variable [Cert.Pre_scores_finite_KernelIdeal.Facts] (m : (ℓ : Loc nD τ sig) → Buf (Elt Ideal) ℓ)
  (h : Cert.Pre_KernelIdeal_scores_finite_KernelIdeal m) (c : Dev nD)

include h

/-- The precondition makes a device's activations real, -/
theorem isReal_x (j : S2x128x512.Idx) : IsReal ((m (c.tc.loc main_arg0) : FVec Ideal S2x128x512 .f32) j) :=
  isReal_of_abs_lt _ (congrFun (h c).1 j)

/-- its query weights, -/
theorem isReal_wq (j : S512x256.Idx) : IsReal ((m (c.tc.loc main_arg1) : FVec Ideal S512x256 .f32) j) :=
  isReal_of_abs_lt _ (congrFun (h c).2.1 j)

/-- and its keys. -/
theorem isReal_key (j : S2x128x4x64.Idx) : IsReal ((m (c.tc.loc main_arg2) : FVec Ideal S2x128x4x64 .f32) j) :=
  isReal_of_abs_lt _ (congrFun (h c).2.2 j)

end Pre

/-! ## The host's reshape -/

/-- Four heads of 64 features laid side by side, at an index. -/
theorem heads_apply (v : FVec Ideal S2x128x4x64 .f32) (h : S2x128x4x64.ShapeCasts S2x128x256) (b : Fin 2) (i : Fin 128) (k : Fin 256) :
    (shapeCast S2x128x256 v h : FVec Ideal S2x128x256 .f32) (ix3 b i k) = v (ix4 b i ⟨k / 64, by omega⟩ ⟨k % 64, by omega⟩) := by
  pointwise

/-- The keys the kernel is handed are the reshaped argument, -/
theorem V_key (m : (ℓ : Loc nD τ sig) → Buf (Elt Ideal) ℓ) (c : Dev nD) :
    Gen.V m c main_v1 = (shapeCast S2x128x256 (m (c.tc.loc main_arg2) : FVec Ideal S2x128x4x64 .f32) Gen.shapeCasts_S2x128x4x64_S2x128x256 : FVec Ideal S2x128x256 .f32) := by
  unfold Gen.V
  after_results
  rfl

/-- and so are the values. -/
theorem V_val (m : (ℓ : Loc nD τ sig) → Buf (Elt Ideal) ℓ) (c : Dev nD) :
    Gen.V m c main_v2 = (shapeCast S2x128x256 (m (c.tc.loc main_arg3) : FVec Ideal S2x128x4x64 .f32) Gen.shapeCasts_S2x128x4x64_S2x128x256 : FVec Ideal S2x128x256 .f32) := by
  unfold Gen.V
  after_results
  rfl

/-! ## Blocks of the whole arrays -/

/-- A device's block of an array of rows, at an index. -/
theorem block3_apply (c : Fin 32) (X : (⟨3, ![2, 4096, 512]⟩ : Shape).Idx → EReal) (b : Fin 2) (i : Fin 128) (e : Fin 512) :
    (Layout.block ⟨3, ![2, 128, 512]⟩ ⟨3, ![2, 4096, 512]⟩ 1 32 c X) (ix3 b i e) = X (ix3 b (globalRow c i) e) := by
  unfold globalRow
  shard_ext

/-- A device's block of an array of rows of heads, at an index. -/
theorem block4_apply (c : Fin 32) (X : (⟨4, ![2, 4096, 4, 64]⟩ : Shape).Idx → EReal) (b : Fin 2) (i : Fin 128) (h : Fin 4) (d : Fin 64) :
    (Layout.block ⟨4, ![2, 128, 4, 64]⟩ ⟨4, ![2, 4096, 4, 64]⟩ 1 32 c X) (ix4 b i h d) = X (ix4 b (globalRow c i) h d) := by
  unfold globalRow
  shard_ext

/-- Every row of the whole array is some device's. -/
theorem exists_globalRow (p : Fin 4096) : ∃ (c : Fin 32) (i : Fin 128), globalRow c i = p :=
  ⟨⟨p.val / 128, by omega⟩, ⟨p.val % 128, by omega⟩, Fin.ext (show 128 * (p.val / 128) + p.val % 128 = p.val by omega)⟩

end Cert.Value

end
-- ==== Proof.Value.Whole.lean ====
/-
  From the claim's hypotheses to its equation: every device's result is its block of the reference's.
-/
module

public import proofs.«01_k».proof.Proof.Value.Inputs
public import proofs.«01_k».proof.Proof.Value.Terms

@[expose] public section

noncomputable section

namespace Cert.Value

open Idealize.ShloMosaic
open Cert.KernelIdeal Cert.KernelIdeal.Ring
open Cert.Value.Reference (whole)

variable (m : (ℓ : Loc nD τ sig) → Buf (Elt Ideal) ℓ)
  (X : FVec Ideal Cert.ReferenceIdeal.S2x4096x512 .f32) (WQ : FVec Ideal Cert.ReferenceIdeal.S512x256 .f32)
  (K V : FVec Ideal Cert.ReferenceIdeal.S2x4096x4x64 .f32) (WO : FVec Ideal Cert.ReferenceIdeal.S256x512 .f32)

/-- Every device's arguments are its part of the whole arrays: blocks of rows of the activations, keys and values, copies of
    the weights. -/
def Agree : Prop :=
  ∀ c : Dev nD, (m (c.tc.loc main_arg0) : FVec Ideal S2x128x512 .f32) = Layout.block ⟨3, ![2, 128, 512]⟩ ⟨3, ![2, 4096, 512]⟩ 1 32 c X
    ∧ (m (c.tc.loc main_arg1) : FVec Ideal S512x256 .f32) = WQ
    ∧ (m (c.tc.loc main_arg2) : FVec Ideal S2x128x4x64 .f32) = Layout.block ⟨4, ![2, 128, 4, 64]⟩ ⟨4, ![2, 4096, 4, 64]⟩ 1 32 c K
    ∧ (m (c.tc.loc main_arg3) : FVec Ideal S2x128x4x64 .f32) = Layout.block ⟨4, ![2, 128, 4, 64]⟩ ⟨4, ![2, 4096, 4, 64]⟩ 1 32 c V
    ∧ (m (c.tc.loc main_arg4) : FVec Ideal S256x512 .f32) = WO

variable {m X WQ K V WO} (H : Agree m X WQ K V WO)

include H

/-- So what the kernels stage is their share of the whole arrays. -/
theorem Agree.shares : Shares (staged m) X WQ K V WO where
  x c b i e := (congrFun (Gen.V_main_arg0 m c) (ix3 b i e)).trans ((congrFun (H c).1 (ix3 b i e)).trans (block3_apply c X b i e))
  wq c e k := (congrFun (Gen.V_main_arg1 m c) (ix2 e k)).trans (congrFun (H c).2.1 (ix2 e k))
  key c b i k := (congrFun (V_key m c) (ix3 b i k)).trans ((heads_apply _ _ b i k).trans
    ((congrFun (H c).2.2.1 (ix4 b i _ _)).trans (block4_apply c K b i _ _)))
  val c b i k := (congrFun (V_val m c) (ix3 b i k)).trans ((heads_apply _ _ b i k).trans
    ((congrFun (H c).2.2.2.1 (ix4 b i _ _)).trans (block4_apply c V b i _ _)))
  wo c k o := (congrFun (Gen.V_main_arg4 m c) (ix2 k o)).trans (congrFun (H c).2.2.2.2 (ix2 k o))

variable [Cert.Pre_scores_finite_KernelIdeal.Facts] (hpre : Cert.Pre_KernelIdeal_scores_finite_KernelIdeal m)

include hpre

/-- The precondition, of every device's block, makes the whole activations real, -/
theorem Agree.isReal_x (b : Fin 2) (p : Fin 4096) (e : Fin 512) : IsReal (X (ix3 b p e)) := by
  obtain ⟨c, i, rfl⟩ := exists_globalRow p
  rw [← block3_apply c X b i e, ← (H c).1]
  exact Value.isReal_x m hpre c _

/-- the query weights, -/
theorem Agree.isReal_wq (e : Fin 512) (k : Fin 256) : IsReal (WQ (ix2 e k)) := by
  rw [← (H 0).2.1]
  exact Value.isReal_wq m hpre 0 _

/-- and the whole keys. -/
theorem Agree.isReal_key (b : Fin 2) (p : Fin 4096) (h : Fin 4) (d : Fin 64) : IsReal (K (ix4 b p h d)) := by
  obtain ⟨c, i, rfl⟩ := exists_globalRow p
  rw [← block4_apply c K b i h d, ← (H c).2.2.1]
  exact Value.isReal_key m hpre c _

/-- A device's result is its block of the reference's. -/
theorem Agree.projected (c : Dev nD) :
    (projected (staged m) c : FVec Ideal S2x128x512 .f32)
      = Layout.block ⟨3, ![2, 128, 512]⟩ ⟨3, ![2, 4096, 512]⟩ 1 32 c (whole X WQ K V WO) := by
  funext j
  rw [eq_ix3 j]
  exact (projected_eq H.shares (H.isReal_x hpre) (H.isReal_wq hpre) (H.isReal_key hpre) c _ _ _).trans
    (block3_apply c (whole X WQ K V WO) _ _ _).symm

end Cert.Value

end
-- ==== Proof.lean ====
/-
  The proof of `Cert.Claim`: the kernel runs, over the machine's floats and over the extended reals, leaves its arguments and
  its semaphores as it found them, and on the extended reals every device's result is its block of the reference's.
-/
module

public import proofs.«01_k».proof.Defs
public import proofs.«01_k».proof.Proof.Kernel.Result
public import proofs.«01_k».proof.Proof.KernelIdeal.Result
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Value.Whole
public import Idealize.ShloMosaic.Adequacy
public import Idealize.ShloMosaic.Init

@[expose] public section

noncomputable section

namespace Cert.Proof

open Idealize.ShloMosaic Idealize.SL.Sem

/-- The kernel runs on the machine's own floats, its arguments end unchanged and its semaphores at zero. -/
theorem frame_kernel : Cert.quiescent_Kernel := fun m ρ _ =>
  (θ_run Cert.Kernel.defs _ _).mono (fun _ h => ⟨fun c => (h.1 c).2, h.2⟩) (Cert.Kernel.Ring.run_result (F := Bits) m ρ)

/-- The same of the kernel over the extended reals. -/
theorem frame_kernelIdeal : Cert.quiescent_KernelIdeal := fun m ρ _ =>
  (θ_run Cert.KernelIdeal.defs _ _).mono (fun _ h => ⟨fun c => (h.1 c).2, h.2⟩) (Cert.KernelIdeal.Ring.run_result (F := Ideal) m ρ)

/-- The same of the reference, which has no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The shape relations the precondition's text takes, of one device's blocks, -/
theorem pre_kernelIdeal_facts : Cert.Pre_scores_finite_KernelIdeal.Facts := ⟨by decide, by decide, by decide⟩

/-- and of the whole arrays. -/
theorem pre_referenceIdeal_facts : Cert.Pre_scores_finite_ReferenceIdeal.Facts := ⟨by decide, by decide, by decide⟩

/-- On the extended reals, with real activations, query weights and keys, every device's result is its block of the
    reference's. -/
theorem algebraic [Cert.Pre_scores_finite_KernelIdeal.Facts] :
    Cert.algebraic_KernelIdeal_ReferenceIdeal_pre_scores_finite_KernelIdeal := by
  intro m g m' g' hpre hagree
  refine ⟨Cert.ReferenceIdeal.Value.res_out0 m' 0, ?_, ?_⟩
  · refine (θ_run Cert.KernelIdeal.defs _ _).mono (fun r h c => ⟨(h.1 c).1.trans ?_, (h.1 c).2⟩)
      (Cert.KernelIdeal.Ring.run_result (F := Ideal) m g)
    rw [Cert.Value.Reference.result_eq]
    exact Cert.Value.Agree.projected hagree hpre c
  · exact (θ_run Cert.ReferenceIdeal.defs _ _).mono (fun r h => h 0) (Cert.ReferenceIdeal.Value.run (F := Ideal) m' g')

theorem claim : Cert.Claim := ⟨Cert.Kernel.Gen.facts, Cert.KernelIdeal.Gen.facts, Cert.ReferenceIdeal.Gen.facts,
  pre_kernelIdeal_facts, pre_referenceIdeal_facts,
  frame_kernel, frame_kernelIdeal, fun m g _ => frame_kernelIdeal m g trivial,
  frame_referenceIdeal, fun m g _ => frame_referenceIdeal m g trivial, trivial,
  @algebraic pre_kernelIdeal_facts⟩

end Cert.Proof

end
